-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S_ : Shape := ⟨0, ![]⟩
abbrev S1000 : Shape := ⟨1, ![1000]⟩
abbrev S16384x1000 : Shape := ⟨2, ![16384, 1000]⟩

class Facts : Prop where
  bcast_S_S1000 : S_.BroadcastsInDim S1000 (![] : Fin 0 → Fin S1000.rank)
  reducesTo_S1000_S_d0 : S1000.ReducesTo [0] S_
  h_S_ : 0 < S_.numel
  bcast_S_S16384x1000 : S_.BroadcastsInDim S16384x1000 (![] : Fin 0 → Fin S16384x1000.rank)
  reducesTo_S16384x1000_S_d0_1 : S16384x1000.ReducesTo [0, 1] S_

variable [Facts]

def fn_part1 {F : FTy → Type} [FloatOps F] (main_v12 : IVec S_ 1) (main_v15 : IVec S16384x1000 1) (main_c_5 : IVec S_ 1) : IVec S_ 1 :=
  let main_v16 : IVec S_ 1 := (fun x v => Host.reduce IntOp.andi x v reducesTo_S16384x1000_S_d0_1 h_S_) main_v15 main_c_5
  let main_v17 : IVec S_ 1 := andi main_v12 main_v16
  main_v17

def fn {F : FTy → Type} [FloatOps F] (main_arg0 : IVec S_ 32) (main_arg1 : FVec F S_ .f32) (main_arg2 : FVec F S1000 .f32) (main_arg3 : FVec F S1000 .f32) (main_arg4 : FVec F S16384x1000 .f32) : IVec S_ 1 :=
  let main_cst : FVec F S_ .f32 := constant S_ .f32 0x00000000#32
  let main_v0 : IVec S_ 1 := cmpf .ogt main_arg1 main_cst
  let main_cst_0 : FVec F S_ .f32 := constant S_ .f32 0x7F800000#32
  let main_v1 : IVec S_ 1 := cmpf .olt main_arg1 main_cst_0
  let main_v2 : IVec S_ 1 := andi main_v0 main_v1
  let main_v3 : FVec F S1000 .f32 := Host.absf main_arg2
  let main_cst_1 : FVec F S_ .f32 := constant S_ .f32 0x7F800000#32
  let main_v4 : FVec F S1000 .f32 := broadcastInDim S1000 ![] bcast_S_S1000 main_cst_1
  let main_v5 : IVec S1000 1 := cmpf .olt main_v3 main_v4
  let main_c : IVec S_ 1 := constantI S_ 1 1#1
  let main_v6 : IVec S_ 1 := (fun x v => Host.reduce IntOp.andi x v reducesTo_S1000_S_d0 h_S_) main_v5 main_c
  let main_v7 : IVec S_ 1 := andi main_v2 main_v6
  let main_v8 : FVec F S1000 .f32 := Host.absf main_arg3
  let main_cst_2 : FVec F S_ .f32 := constant S_ .f32 0x7F800000#32
  let main_v9 : FVec F S1000 .f32 := broadcastInDim S1000 ![] bcast_S_S1000 main_cst_2
  let main_v10 : IVec S1000 1 := cmpf .olt main_v8 main_v9
  let main_c_3 : IVec S_ 1 := constantI S_ 1 1#1
  let main_v11 : IVec S_ 1 := (fun x v => Host.reduce IntOp.andi x v reducesTo_S1000_S_d0 h_S_) main_v10 main_c_3
  let main_v12 : IVec S_ 1 := andi main_v7 main_v11
  let main_v13 : FVec F S16384x1000 .f32 := Host.absf main_arg4
  let main_cst_4 : FVec F S_ .f32 := constant S_ .f32 0x7F800000#32
  let main_v14 : FVec F S16384x1000 .f32 := broadcastInDim S16384x1000 ![] bcast_S_S16384x1000 main_cst_4
  let main_v15 : IVec S16384x1000 1 := cmpf .olt main_v13 main_v14
  let main_c_5 : IVec S_ 1 := constantI S_ 1 1#1
  fn_part1 (F := F) main_v12 main_v15 main_c_5
-- ==== Kernel.lean ====
abbrev S_ : Shape := ⟨0, ![]⟩
abbrev S1000 : Shape := ⟨1, ![1000]⟩
abbrev S16384x1000 : Shape := ⟨2, ![16384, 1000]⟩
abbrev S1 : Shape := ⟨1, ![1]⟩
abbrev S1000x1 : Shape := ⟨2, ![1000, 1]⟩
abbrev S1x1000 : Shape := ⟨2, ![1, 1000]⟩
abbrev S6x1000 : Shape := ⟨2, ![6, 1000]⟩
abbrev S8x1000 : Shape := ⟨2, ![8, 1000]⟩
abbrev S1x1 : Shape := ⟨2, ![1, 1]⟩
abbrev S1000x16384 : Shape := ⟨2, ![1000, 16384]⟩
abbrev S1x16384 : Shape := ⟨2, ![1, 16384]⟩
abbrev S1000x2048 : Shape := ⟨2, ![1000, 2048]⟩
abbrev S1x2048 : Shape := ⟨2, ![1, 2048]⟩
abbrev S2048 : Shape := ⟨1, ![2048]⟩
abbrev S8x2048 : Shape := ⟨2, ![8, 2048]⟩
abbrev S16384 : Shape := ⟨1, ![16384]⟩

abbrev nBuf : Space → Nat
  | .hbm => 48
  | .vmem => 9
  | .smem => 0
  | _ => 0

abbrev bufTy : (tb : Table) → Fin (tcTables nBuf tb) → BufTy
  | .hbm, ⟨0, _⟩ => ⟨S_, .i32⟩
  | .hbm, ⟨1, _⟩ => ⟨S_, .f32⟩
  | .hbm, ⟨2, _⟩ => ⟨S1000, .f32⟩
  | .hbm, ⟨3, _⟩ => ⟨S1000, .f32⟩
  | .hbm, ⟨4, _⟩ => ⟨S16384x1000, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S1, .i1⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S1000, .f32⟩
  | .hbm, ⟨16, _⟩ => ⟨S1000, .f32⟩
  | .hbm, ⟨17, _⟩ => ⟨S1000, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S1, .f32⟩
  | .hbm, ⟨23, _⟩ => ⟨S1, .f32⟩
  | .hbm, ⟨24, _⟩ => ⟨S1000, .f32⟩
  | .hbm, ⟨25, _⟩ => ⟨S1000, .f32⟩
  | .hbm, ⟨26, _⟩ => ⟨S1000x1, .f32⟩
  | .hbm, ⟨27, _⟩ => ⟨S1x1000, .f32⟩
  | .hbm, ⟨28, _⟩ => ⟨S1x1000, .f32⟩
  | .hbm, ⟨29, _⟩ => ⟨S1x1000, .f32⟩
  | .hbm, ⟨30, _⟩ => ⟨S1x1000, .f32⟩
  | .hbm, ⟨31, _⟩ => ⟨S_, .f32⟩
  | .hbm, ⟨32, _⟩ => ⟨S1x1000, .f32⟩
  | .hbm, ⟨33, _⟩ => ⟨S_, .f32⟩
  | .hbm, ⟨34, _⟩ => ⟨S6x1000, .f32⟩
  | .hbm, ⟨35, _⟩ => ⟨S8x1000, .f32⟩
  | .hbm, ⟨36, _⟩ => ⟨S8x1000, .bf16⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x1, .f32⟩
  | .hbm, ⟨43, _⟩ => ⟨S1000x16384, .f32⟩
  | .hbm, ⟨44, _⟩ => ⟨S1000x16384, .f32⟩
  | .hbm, ⟨45, _⟩ => ⟨S1x16384, .f32⟩
  | .hbm, ⟨46, _⟩ => ⟨S16384x1000, .f32⟩
  | .hbm, ⟨47, _⟩ => ⟨S16384, .f32⟩
  | .local _ .vmem, ⟨0, _⟩ => ⟨S1000x1, .f32⟩
  | .local _ .vmem, ⟨1, _⟩ => ⟨S8x1000, .bf16⟩
  | .local _ .vmem, ⟨2, _⟩ => ⟨S1x1, .f32⟩
  | .local _ .vmem, ⟨3, _⟩ => ⟨S1000x2048, .f32⟩
  | .local _ .vmem, ⟨4, _⟩ => ⟨S1000x2048, .f32⟩
  | .local _ .vmem, ⟨5, _⟩ => ⟨S1000x2048, .f32⟩
  | .local _ .vmem, ⟨6, _⟩ => ⟨S1000x2048, .f32⟩
  | .local _ .vmem, ⟨7, _⟩ => ⟨S1x2048, .f32⟩
  | .local _ .vmem, ⟨8, _⟩ => ⟨S1x2048, .f32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1000x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "neg_log2_e" => some ((-((Real.log 2)⁻¹) : ℝ) : EReal)
  | _ => none
-- ==== ReferenceIdeal.lean ====
abbrev S_ : Shape := ⟨0, ![]⟩
abbrev S1000 : Shape := ⟨1, ![1000]⟩
abbrev S16384x1000 : Shape := ⟨2, ![16384, 1000]⟩
abbrev S1 : Shape := ⟨1, ![1]⟩
abbrev S1x1000 : Shape := ⟨2, ![1, 1000]⟩
abbrev S16384 : Shape := ⟨1, ![16384]⟩
abbrev S16384x1 : Shape := ⟨2, ![16384, 1]⟩

abbrev nBuf : Space → Nat
  | .hbm => 123
  | .vmem => 0
  | .smem => 0
  | _ => 0

abbrev bufTy : (tb : Table) → Fin (tcTables nBuf tb) → BufTy
  | .hbm, ⟨0, _⟩ => ⟨S_, .i32⟩
  | .hbm, ⟨1, _⟩ => ⟨S_, .f32⟩
  | .hbm, ⟨2, _⟩ => ⟨S1000, .f32⟩
  | .hbm, ⟨3, _⟩ => ⟨S1000, .f32⟩
  | .hbm, ⟨4, _⟩ => ⟨S16384x1000, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S1000, .f32⟩
  | .hbm, ⟨11, _⟩ => ⟨S1000, .f32⟩
  | .hbm, ⟨12, _⟩ => ⟨S1000, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S1, .f32⟩
  | .hbm, ⟨17, _⟩ => ⟨S1000, .f32⟩
  | .hbm, ⟨18, _⟩ => ⟨S1000, .f32⟩
  | .hbm, ⟨19, _⟩ => ⟨S1x1000, .f32⟩
  | .hbm, ⟨20, _⟩ => ⟨S16384x1000, .f32⟩
  | .hbm, ⟨21, _⟩ => ⟨S16384x1000, .f32⟩
  | .hbm, ⟨22, _⟩ => ⟨S16384x1000, .f32⟩
  | .hbm, ⟨23, _⟩ => ⟨S16384x1000, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S16384x1, .f32⟩
  | .hbm, ⟨30, _⟩ => ⟨S16384x1000, .f32⟩
  | .hbm, ⟨31, _⟩ => ⟨S16384x1000, .f32⟩
  | .hbm, ⟨32, _⟩ => ⟨S16384x1000, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S16384x1000, .f32⟩
  | .hbm, ⟨37, _⟩ => ⟨S16384x1000, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1000, .f32⟩
  | .hbm, ⟨42, _⟩ => ⟨S16384x1000, .f32⟩
  | .hbm, ⟨43, _⟩ => ⟨S16384x1000, .f32⟩
  | .hbm, ⟨44, _⟩ => ⟨S16384x1000, .f32⟩
  | .hbm, ⟨45, _⟩ => ⟨S16384x1000, .f32⟩
  | .hbm, ⟨46, _⟩ => ⟨S1x1000, .f32⟩
  | .hbm, ⟨47, _⟩ => ⟨S16384x1000, .f32⟩
  | .hbm, ⟨48, _⟩ => ⟨S16384x1000, .f32⟩
  | .hbm, ⟨49, _⟩ => ⟨S_, .f32⟩
  | .hbm, ⟨50, _⟩ => ⟨S16384, .f32⟩
  | .hbm, ⟨51, _⟩ => ⟨S_, .f32⟩
  | .hbm, ⟨52, _⟩ => ⟨S16384, .f32⟩
  | .hbm, ⟨53, _⟩ => ⟨S16384, .f32⟩
  | .hbm, ⟨54, _⟩ => ⟨S16384x1, .f32⟩
  | .hbm, ⟨55, _⟩ => ⟨S16384x1000, .f32⟩
  | .hbm, ⟨56, _⟩ => ⟨S16384x1000, .f32⟩
  | .hbm, ⟨57, _⟩ => ⟨S16384x1000, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S16384x1, .f32⟩
  | .hbm, ⟨62, _⟩ => ⟨S16384x1000, .f32⟩
  | .hbm, ⟨63, _⟩ => ⟨S16384x1000, .f32⟩
  | .hbm, ⟨64, _⟩ => ⟨S_, .f32⟩
  | .hbm, ⟨65, _⟩ => ⟨S16384, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S16384, .f32⟩
  | .hbm, ⟨72, _⟩ => ⟨S16384, .f32⟩
  | .hbm, ⟨73, _⟩ => ⟨S_, .f32⟩
  | .hbm, ⟨74, _⟩ => ⟨S16384, .f32⟩
  | .hbm, ⟨75, _⟩ => ⟨S16384, .f32⟩
  | .hbm, ⟨76, _⟩ => ⟨S16384x1000, .f32⟩
  | .hbm, ⟨77, _⟩ => ⟨S16384x1000, .f32⟩
  | .hbm, ⟨78, _⟩ => ⟨S16384x1000, .f32⟩
  | .hbm, ⟨79, _⟩ => ⟨S1x1000, .f32⟩
  | .hbm, ⟨80, _⟩ => ⟨S16384x1000, .f32⟩
  | .hbm, ⟨81, _⟩ => ⟨S16384x1000, .f32⟩
  | .hbm, ⟨82, _⟩ => ⟨S_, .f32⟩
  | .hbm, ⟨83, _⟩ => ⟨S16384, .f32⟩
  | .hbm, ⟨84, _⟩ => ⟨S_, .f32⟩
  | .hbm, ⟨85, _⟩ => ⟨S16384, .f32⟩
  | .hbm, ⟨86, _⟩ => ⟨S16384, .f32⟩
  | .hbm, ⟨87, _⟩ => ⟨S16384x1, .f32⟩
  | .hbm, ⟨88, _⟩ => ⟨S16384x1000, .f32⟩
  | .hbm, ⟨89, _⟩ => ⟨S16384x1000, .f32⟩
  | .hbm, ⟨90, _⟩ => ⟨S16384x1000, .f32⟩
  | .hbm, ⟨91, _⟩ => ⟨S_, .f32⟩
  | .hbm, ⟨92, _⟩ => ⟨S16384, .f32⟩
  | .hbm, ⟨93, _⟩ => ⟨S16384x1, .f32⟩
  | .hbm, ⟨94, _⟩ => ⟨S16384x1, .f32⟩
  | .hbm, ⟨95, _⟩ => ⟨S16384x1000, .f32⟩
  | .hbm, ⟨96, _⟩ => ⟨S16384x1000, .f32⟩
  | .hbm, ⟨97, _⟩ => ⟨S_, .f32⟩
  | .hbm, ⟨98, _⟩ => ⟨S16384, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S16384, .f32⟩
  | .hbm, ⟨105, _⟩ => ⟨S16384, .f32⟩
  | .hbm, ⟨106, _⟩ => ⟨S_, .f32⟩
  | .hbm, ⟨107, _⟩ => ⟨S16384, .f32⟩
  | .hbm, ⟨108, _⟩ => ⟨S16384, .f32⟩
  | .hbm, ⟨109, _⟩ => ⟨S16384x1000, .i32⟩
  | .hbm, ⟨110, _⟩ => ⟨S_, .f32⟩
  | .hbm, ⟨111, _⟩ => ⟨S_, .i32⟩
  | .hbm, ⟨112, _⟩ => ⟨S16384, .f32⟩
  | .hbm, ⟨113, _⟩ => ⟨S16384, .i32⟩
  | .hbm, ⟨114, _⟩ => ⟨S16384x1, .i32⟩
  | .hbm, ⟨115, _⟩ => ⟨S1x1000, .i32⟩
  | .hbm, ⟨116, _⟩ => ⟨S16384x1000, .i32⟩
  | .hbm, ⟨117, _⟩ => ⟨S16384x1000, .i32⟩
  | .hbm, ⟨118, _⟩ => ⟨S16384x1000, .i1⟩
  | .hbm, ⟨119, _⟩ => ⟨S16384x1000, .f32⟩
  | .hbm, ⟨120, _⟩ => ⟨S16384x1000, .f32⟩
  | .hbm, ⟨121, _⟩ => ⟨S16384x1000, .f32⟩
  | .hbm, ⟨122, _⟩ => ⟨S16384, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_cst : Ref sig .tc := ⟨.hbm, 49, rfl⟩
abbrev main_call1_v0 : Ref sig .tc := ⟨.hbm, 50, rfl⟩
abbrev main_call1_cst_0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_cst_1 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_v27 : Ref sig .tc := ⟨.hbm, 63, rfl⟩
abbrev main_cst_3 : Ref sig .tc := ⟨.hbm, 64, rfl⟩
abbrev main_v28 : Ref sig .tc := ⟨.hbm, 65, rfl⟩
abbrev main_v29 : Ref sig .tc := ⟨.hbm, 66, rfl⟩
abbrev main_cst_4 : Ref sig .tc := ⟨.hbm, 67, rfl⟩
abbrev main_v30 : Ref sig .tc := ⟨.hbm, 68, rfl⟩
abbrev main_cst_5 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_6 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_call2_cst : Ref sig .tc := ⟨.hbm, 82, rfl⟩
abbrev main_call2_v0 : Ref sig .tc := ⟨.hbm, 83, rfl⟩
abbrev main_call2_cst_0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_cst_1 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_v42 : Ref sig .tc := ⟨.hbm, 96, rfl⟩
abbrev main_cst_7 : Ref sig .tc := ⟨.hbm, 97, rfl⟩
abbrev main_v43 : Ref sig .tc := ⟨.hbm, 98, rfl⟩
abbrev main_v44 : Ref sig .tc := ⟨.hbm, 99, rfl⟩
abbrev main_cst_8 : Ref sig .tc := ⟨.hbm, 100, rfl⟩
abbrev main_v45 : Ref sig .tc := ⟨.hbm, 101, rfl⟩
abbrev main_cst_9 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_cst_10 : Ref sig .tc := ⟨.hbm, 106, rfl⟩
abbrev main_v49 : Ref sig .tc := ⟨.hbm, 107, rfl⟩
abbrev main_v50 : Ref sig .tc := ⟨.hbm, 108, rfl⟩
abbrev main_call3_v0 : Ref sig .tc := ⟨.hbm, 109, rfl⟩
abbrev main_call3_cst : Ref sig .tc := ⟨.hbm, 110, rfl⟩
abbrev main_call3_c : Ref sig .tc := ⟨.hbm, 111, rfl⟩
abbrev main_call3_v1_0 : Ref sig .tc := ⟨.hbm, 112, rfl⟩
abbrev main_v51 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩

abbrev nD : Nat := 1
abbrev τ : Topo := Topo.v7x

variable {F : FTy → Type} [FloatOps F]
-- ==== Proof.FirstTop.lean ====
/- The first index of the largest value of a finite family of reals, and the three ways in which the two programs find
   it: the largest value by a maximum, its first index by a minimum over the indices that reach it, and both at once by a
   fold over pairs. -/
module

public import Idealize.ShloMosaic.PureOps.Ideal
public import Idealize.ShloMosaic.PureOps.Ideal.Laws
public import Idealize.ShloMosaic.PureOps.Reduce
public import Mathlib.Data.Finset.Fold

@[expose] public section

noncomputable section

namespace Cert.FirstTop

open Idealize.ShloMosaic

/-- `k` is the first index at which `z` takes its largest value. -/
def IsFirst {n : ℕ} (z : Fin n → ℝ) (k : Fin n) : Prop := (∀ x, z x ≤ z k) ∧ ∀ x, x < k → z x < z k

/-- A family over a nonempty index set has a first largest entry. -/
theorem exists_first {n : ℕ} (hn : 0 < n) (z : Fin n → ℝ) : ∃ k, IsFirst z k := by
  classical
  have : Nonempty (Fin n) := ⟨⟨0, hn⟩⟩
  obtain ⟨t, ht⟩ := Finite.exists_max z
  let S : Finset (Fin n) := Finset.univ.filter fun k => ∀ x, z x ≤ z k
  have hS : S.Nonempty := ⟨t, by simp [S, ht]⟩
  have hm : ∀ x, z x ≤ z (S.min' hS) := (Finset.mem_filter.mp (S.min'_mem hS)).2
  refine ⟨S.min' hS, hm, fun x hx => ?_⟩
  have hx' : x ∉ S := fun h => absurd (S.min'_le x h) (not_le.mpr hx)
  simp only [S, Finset.mem_filter, Finset.mem_univ, true_and, not_forall, not_le] at hx'
  obtain ⟨y, hy⟩ := hx'
  exact hy.trans_le (hm y)

/-- There is only one. -/
theorem IsFirst.unique {n : ℕ} {z : Fin n → ℝ} {k k' : Fin n} (h : IsFirst z k) (h' : IsFirst z k') : k = k' := by
  rcases lt_trichotomy k k' with hlt | he | hgt
  · exact absurd (h'.2 k hlt) (not_lt.mpr (h.1 k'))
  · exact he
  · exact absurd (h.2 k' hgt) (not_lt.mpr (h'.1 k))

/-- A strictly increasing function of the entries keeps it. -/
theorem IsFirst.map {n : ℕ} {z : Fin n → ℝ} {k : Fin n} (h : IsFirst z k) {f : ℝ → ℝ} (hf : StrictMono f) :
    IsFirst (fun x => f (z x)) k :=
  ⟨fun x => hf.monotone (h.1 x), fun x hx => hf (h.2 x hx)⟩

/-- The maximum of the entries, from `⊥`, is the entry there. -/
theorem IsFirst.fold_max {n : ℕ} {z : Fin n → ℝ} {k : Fin n} (h : IsFirst z k) :
    Finset.univ.fold max (⊥ : EReal) (fun x => (z x : EReal)) = (z k : EReal) := by
  apply le_antisymm
  · exact Finset.fold_max_le _ |>.mpr ⟨bot_le, fun x _ => EReal.coe_le_coe_iff.mpr (h.1 x)⟩
  · exact Finset.le_fold_max _ |>.mpr (Or.inr ⟨k, Finset.mem_univ k, le_rfl⟩)

/-- The signed value of a minimum of words. -/
theorem toInt_min (a b : BitVec 32) : (IntOp.minsi a b).toInt = min a.toInt b.toInt := by
  unfold IntOp.minsi
  by_cases h : a.slt b = true
  · rw [if_pos h]
    exact (min_eq_left (le_of_lt (by simpa [BitVec.slt] using h))).symm
  · rw [if_neg h]
    exact (min_eq_right (by simpa [BitVec.slt] using h)).symm

/-- The signed value of a class number. -/
theorem toInt_class (x : Fin 1000) : (BitVec.ofNat 32 x.val).toInt = (x.val : ℤ) := by
  have := x.isLt
  rw [BitVec.toInt_eq_toNat_cond, BitVec.toNat_ofNat, Nat.mod_eq_of_lt (by omega), if_pos (by omega)]

/-- The minimum over the classes that reach the top, every other class counting as 1000, is the first of them. -/
theorem IsFirst.fold_min {z : Fin 1000 → ℝ} {k : Fin 1000} (h : IsFirst z k) :
    Finset.univ.fold IntOp.minsi 2147483647#32
      (fun x : Fin 1000 => if (z k : EReal) ≤ (z x : EReal) then BitVec.ofNat 32 x.val else 1000#32)
      = BitVec.ofNat 32 k.val := by
  apply BitVec.eq_of_toInt_eq
  rw [← Finset.fold_hom (op' := min) (m := BitVec.toInt) toInt_min, toInt_class]
  apply le_antisymm
  · refine Finset.fold_min_le _ |>.mpr (Or.inr ⟨k, Finset.mem_univ k, ?_⟩)
    rw [if_pos le_rfl, toInt_class]
  · refine Finset.le_fold_min _ |>.mpr ⟨?_, fun x _ => ?_⟩
    · have := k.isLt
      have e : (2147483647#32 : BitVec 32).toInt = 2147483647 := by decide
      omega
    · by_cases hx : (z k : EReal) ≤ (z x : EReal)
      · rw [if_pos hx, toInt_class]
        have hk : k ≤ x := not_lt.mp fun hlt => absurd (h.2 x hlt) (not_lt.mpr (EReal.coe_le_coe_iff.mp hx))
        exact_mod_cast hk
      · rw [if_neg hx]
        have := k.isLt
        have e : (1000#32 : BitVec 32).toInt = 1000 := by decide
        omega

/-- The bit of two classes' equality, widened and read as a number. -/
theorem sitofp_eq (x k : Fin 1000) :
    FloatOps.sitofp (F := Ideal) .f32 (BitVec.setWidth 32 (IntOp.cmpi .eq (BitVec.ofNat 32 x.val) (BitVec.ofNat 32 k.val)))
      = if x = k then (1 : EReal) else 0 := by
  have hx := x.isLt
  have hk := k.isLt
  have e : (BitVec.ofNat 32 x.val = BitVec.ofNat 32 k.val) ↔ x = k := by
    constructor
    · intro h
      have := congrArg BitVec.toNat h
      rw [BitVec.toNat_ofNat, BitVec.toNat_ofNat, Nat.mod_eq_of_lt (by omega), Nat.mod_eq_of_lt (by omega)] at this
      exact Fin.ext this
    · rintro rfl; rfl
  show (((BitVec.setWidth 32 (IntOp.cmpi .eq (BitVec.ofNat 32 x.val) (BitVec.ofNat 32 k.val))).toInt : ℝ) : EReal) = _
  by_cases h : x = k
  · subst h
    rw [if_pos rfl]
    simp [IntOp.cmpi]
  · rw [if_neg h]
    have hb : (BitVec.ofNat 32 x.val == BitVec.ofNat 32 k.val) = false := by
      rw [beq_eq_false_iff_ne]; exact fun h' => h (e.mp h')
    simp [IntOp.cmpi, hb]

/-- The same bit read as a number without widening. -/
theorem uitofp_eq (x k : Fin 1000) :
    FloatOps.uitofp (F := Ideal) .f32 (IntOp.cmpi .eq (BitVec.ofNat 32 k.val) (BitVec.ofNat 32 x.val))
      = if x = k then (1 : EReal) else 0 := by
  have hx := x.isLt
  have hk := k.isLt
  show (((IntOp.cmpi .eq (BitVec.ofNat 32 k.val) (BitVec.ofNat 32 x.val)).toNat : ℝ) : EReal) = _
  by_cases h : x = k
  · subst h
    rw [if_pos rfl]
    simp [IntOp.cmpi]
  · rw [if_neg h]
    have hb : (BitVec.ofNat 32 k.val == BitVec.ofNat 32 x.val) = false := by
      rw [beq_eq_false_iff_ne]
      intro h'
      have := congrArg BitVec.toNat h'
      rw [BitVec.toNat_ofNat, BitVec.toNat_ofNat, Nat.mod_eq_of_lt (by omega), Nat.mod_eq_of_lt (by omega)] at this
      exact h (Fin.ext this.symm)
    simp [IntOp.cmpi, hb]

/-! ## The fold over pairs -/

/-- Pair `a` goes before pair `b`: a larger value, or the same value at a smaller index. -/
def Before (a b : EReal × BitVec 32) : Prop := b.1 < a.1 ∨ (a.1 = b.1 ∧ a.2.toInt < b.2.toInt)

/-- A fold that keeps the pair that goes before ends in a pair that goes before all others, once it has met it. -/
theorem foldl_before (f : EReal × BitVec 32 → EReal × BitVec 32 → EReal × BitVec 32)
    (hl : ∀ a b, Before a b → f a b = a) (hr : ∀ a b, Before a b → f b a = a) (hs : ∀ a, f a a = a)
    (hc : ∀ a b, f a b = a ∨ f a b = b) (e : EReal × BitVec 32) (L : List (EReal × BitVec 32)) (a : EReal × BitVec 32)
    (ha : a = e ∨ (Before e a ∧ e ∈ L)) (hL : ∀ x ∈ L, x = e ∨ Before e x) : L.foldl f a = e := by
  induction L generalizing a with
  | nil =>
    rcases ha with h | ⟨_, h⟩
    · exact h
    · exact absurd h List.not_mem_nil
  | cons x L ih =>
    refine ih (f a x) ?_ fun y hy => hL y (List.mem_cons_of_mem x hy)
    rcases ha with rfl | ⟨hb, hm⟩
    · left
      rcases hL x List.mem_cons_self with rfl | h
      · exact hs _
      · exact hl _ _ h
    · rcases List.mem_cons.mp hm with rfl | hm
      · exact Or.inl (hr _ _ hb)
      · rcases hL x List.mem_cons_self with rfl | h
        · exact Or.inl (hr _ _ hb)
        · right
          rcases hc a x with h' | h' <;> rw [h']
          · exact ⟨hb, hm⟩
          · exact ⟨h, hm⟩

end Cert.FirstTop

end
-- ==== Proof.Reals.lean ====
/- The programs' operations on real arguments, and the real functions that both results are stated with. -/
module

public import Idealize.ShloMosaic.PureOps.Ideal
public import Idealize.ShloMosaic.PureOps.Ideal.Laws
public import Mathlib.Analysis.SpecialFunctions.Log.Basic
public import proofs.«01_k».proof.Proof.FirstTop

@[expose] public section

noncomputable section

namespace Cert.Reals

open Idealize.ShloMosaic

/-! ## Constants -/

theorem bits_bot : Ideal.ofBits FTy.f32 4286578688#32 = (⊥ : EReal) := by simp [Ideal.ofBits, Ideal.ieee]

theorem bits_top : Ideal.ofBits FTy.f32 2139095040#32 = (⊤ : EReal) := by simp [Ideal.ofBits, Ideal.ieee]

theorem bits_thousand : Ideal.ofBits FTy.f32 1148846080#32 = ((1000 : ℝ) : EReal) := by
  simp [Ideal.ofBits, Ideal.ieee, -EReal.coe_mul]; norm_num

/-- The two constants of the density's scale are real. -/
theorem bits_scale : (∃ a : ℝ, Ideal.ofBits FTy.f32 1169721795#32 = (a : EReal)) ∧
    ∃ b : ℝ, Ideal.ofBits FTy.f32 1148829696#32 = (b : EReal) := by
  constructor
  · simp only [Ideal.ofBits, Ideal.ieee]; norm_num [-EReal.coe_mul]; exact ⟨_, rfl⟩
  · simp only [Ideal.ofBits, Ideal.ieee]; norm_num [-EReal.coe_mul]; exact ⟨_, rfl⟩

/-! ## Operations -/

/-- A finite sum of reals is the real sum. -/
theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

theorem log_of_pos {r : ℝ} (h : 0 < r) : Ideal.log (r : EReal) = (Real.log r : EReal) := by
  rw [Ideal.log_coe, if_neg (not_le.mpr h)]

theorem div_real (x : ℝ) {y : ℝ} (h : y ≠ 0) : Ideal.div (x : EReal) (y : EReal) = ((x / y : ℝ) : EReal) := by
  rw [Ideal.div_coe h, ← EReal.coe_mul, mul_one_div]

/-- Two to the power of `-x / log 2` is the exponential of `-x`. -/
theorem exp2_scaled (x : ℝ) : Ideal.exp2 (((x * -(Real.log 2)⁻¹ : ℝ) : EReal)) = (Real.exp (-x) : EReal) := by
  rw [Ideal.exp2_coe]
  congr 1
  show (2 : ℝ) ^ (x * -(Real.log 2)⁻¹) = _
  have h2 : Real.log 2 ≠ 0 := (Real.log_pos one_lt_two).ne'
  rw [Real.rpow_def_of_pos two_pos]
  congr 1
  field_simp

/-- The maximum of finitely many reals, from `⊥`, is a real. -/
theorem fold_max_real (X : Fin 1000 → ℝ) :
    ∃ M : ℝ, Finset.univ.fold max (⊥ : EReal) (fun k => (X k : EReal)) = (M : EReal) := by
  obtain ⟨k, hk⟩ := Cert.FirstTop.exists_first (by norm_num) X
  exact ⟨X k, hk.fold_max⟩

/-! ## The normalised logits -/

/-- The sum of the exponentials. -/
def total (X : Fin 1000 → ℝ) : ℝ := ∑ k, Real.exp (X k)

theorem total_pos (X : Fin 1000 → ℝ) : 0 < total X :=
  Finset.sum_pos (fun k _ => Real.exp_pos (X k)) ⟨0, Finset.mem_univ 0⟩

/-- A family less the logarithm of the sum of its exponentials. -/
def lnr (X : Fin 1000 → ℝ) (k : Fin 1000) : ℝ := X k - Real.log (total X)

theorem total_sub (X : Fin 1000 → ℝ) (M : ℝ) : total (fun k => X k - M) = total X * Real.exp (-M) := by
  unfold total
  rw [Finset.sum_mul]
  exact Finset.sum_congr rfl fun k _ => by rw [← Real.exp_add, ← sub_eq_add_neg]

theorem log_total_sub (X : Fin 1000 → ℝ) (M : ℝ) : Real.log (total fun k => X k - M) = Real.log (total X) - M := by
  rw [total_sub, Real.log_mul (total_pos X).ne' (Real.exp_pos _).ne', Real.log_exp, sub_eq_add_neg]

/-- Subtracting one number from every entry changes nothing. -/
theorem lnr_sub (X : Fin 1000 → ℝ) (M : ℝ) : lnr (fun k => X k - M) = lnr X := by
  funext k
  unfold lnr
  rw [log_total_sub]
  ring

theorem sum_lnr (X : Fin 1000 → ℝ) : ∑ k, lnr X k = (∑ k, X k) - 1000 * Real.log (total X) := by
  unfold lnr
  rw [Finset.sum_sub_distrib, Finset.sum_const, Finset.card_univ, Fintype.card_fin, nsmul_eq_mul]
  norm_num

/-! ## The two results -/

/-- The perturbed logits of one sample. -/
def perturbed (l g : Fin 1000 → ℝ) (k : Fin 1000) : ℝ := lnr l k + g k

/-- The entry of the one-hot sample: 1 at the first largest perturbed logit, 0 elsewhere. -/
def hard (l g : Fin 1000 → ℝ) (k : Fin 1000) : EReal :=
  open Classical in if Cert.FirstTop.IsFirst (perturbed l g) k then 1 else 0

/-- The difference of the two log densities of one sample. -/
def ratio (l p g : Fin 1000 → ℝ) : ℝ :=
  (∑ k, lnr l k - ∑ k, p k) + 1000 * (Real.log (∑ k, Real.exp (p k - lnr l k) * Real.exp (-g k)) - Real.log (∑ k, Real.exp (-g k)))

theorem hard_eq {l g : Fin 1000 → ℝ} {i : Fin 1000} (h : Cert.FirstTop.IsFirst (perturbed l g) i) (k : Fin 1000) :
    hard l g k = if k = i then 1 else 0 := by
  unfold hard
  by_cases e : k = i
  · subst e; rw [if_pos h, if_pos rfl]
  · rw [if_neg e, if_neg fun h' => e (h'.unique h)]

/-- The two sums of normalised scores differ by the ratio. -/
theorem scores_ratio (l p g : Fin 1000 → ℝ) :
    ∑ k, lnr (fun k => lnr l k - perturbed l g k) k - ∑ k, lnr (fun k => p k - perturbed l g k) k = ratio l p g := by
  have h₁ : (fun k => lnr l k - perturbed l g k) = fun k => -g k := funext fun k => by unfold perturbed; ring
  have h₂ : total (fun k => p k - perturbed l g k) = ∑ k, Real.exp (p k - lnr l k) * Real.exp (-g k) :=
    Finset.sum_congr rfl fun k _ => by unfold perturbed; rw [← Real.exp_add]; congr 1; ring
  have h₃ : ∑ k, (p k - perturbed l g k) = ∑ k, p k - ∑ k, lnr l k - ∑ k, g k := by
    rw [← Finset.sum_sub_distrib, ← Finset.sum_sub_distrib]
    exact Finset.sum_congr rfl fun k _ => by unfold perturbed; ring
  rw [sum_lnr, sum_lnr, h₁, h₂, h₃, Finset.sum_neg_distrib]
  unfold ratio total
  ring

end Cert.Reals

end
-- ==== Proof.KernelEntry.lean ====
/- What the kernel's four input arrays hold when the grid starts, as functions of the arguments, and their entries on
   real arguments. -/
module

public import proofs.«01_k».proof.Proof.Gen.KernelIdeal.Frame
public import proofs.«01_k».proof.Proof.Reals
public import Idealize.ShloMosaic.Lib.StableHlo.RunRead
public import Idealize.ShloMosaic.Lib.IdealHost
public import Idealize.ShloMosaic.Lib.Pointwise

@[expose] public section

set_option Elab.async false
set_option maxRecDepth 4096

noncomputable section

namespace Cert.KernelValue

open Cert.KernelIdeal Cert.KernelIdeal.Gen Cert.Reals Idealize.ShloMosaic Idealize.ShloMosaic.TcCoe Idealize.SL.Sem

/-! ## The arrays -/

/-- The largest logit. -/
def top (l : FVec Ideal S1000 .f32) : FVec Ideal S1 .f32 :=
  broadcastInDim S1 ![] bcast_S_S1 (Host.reduce FloatOps.maximumf l (constant S_ .f32 0xFF800000#32) reducesTo_S1000_S_d0 h_S_)

/-- The largest logit where it is finite, and 0 where it is not. -/
def finiteTop (l : FVec Ideal S1000 .f32) : FVec Ideal S1 .f32 :=
  select (cmpf .olt (Host.absf (top l)) (broadcastInDim S1 ![] bcast_S_S1 (constant S_ .f32 0x7F800000#32))) (top l)
    (broadcastInDim S1 ![] bcast_S_S1 (constant S_ .f32 0x00000000#32))

/-- The log-sum-exp of the logits. -/
def logSum (l : FVec Ideal S1000 .f32) : FVec Ideal S1 .f32 :=
  addf (Host.log (Host.absf (broadcastInDim S1 ![] bcast_S_S1
    (Host.reduceAdd (Host.exp (subf l (broadcastInDim S1000 ![0] bcast_S1_S1000_0 (finiteTop l))))
      (constant S_ .f32 0x00000000#32) reducesTo_S1000_S_d0 h_S_)))) (finiteTop l)

/-- The normalised logits as one column. -/
def lnCol (l : FVec Ideal S1000 .f32) : FVec Ideal S1000x1 .f32 :=
  shapeCast S1000x1 (subf l (broadcastInDim S1000 ![0] bcast_S1_S1000_0 (logSum l))) shapeCasts_S1000_S1000x1

/-- The two rows of weights: ones, and the exponentials of the prior less the normalised logits; six rows of zeros below. -/
def weights (l p : FVec Ideal S1000 .f32) : FVec Ideal S8x1000 .bf16 :=
  truncf .bf16 (concatenate S8x1000 0
    [⟨S1x1000, broadcastInDim S1x1000 ![] bcast_S_S1x1000 (constant S_ .f32 0x3F800000#32)⟩,
     ⟨S1x1000, Host.exp (subf (shapeCast S1x1000 p shapeCasts_S1000_S1x1000)
        (shapeCast S1x1000 (lnCol l) shapeCasts_S1000x1_S1x1000))⟩,
     ⟨S6x1000, broadcastInDim S6x1000 ![] bcast_S_S6x1000 (constant S_ .f32 0x00000000#32)⟩]
    concatenates_S1x1000_S1x1000_S6x1000_S8x1000_d0) bitsLt_bf16_f32

/-- The sum of the normalised logits less that of the prior. -/
def offset (l p : FVec Ideal S1000 .f32) : FVec Ideal S1x1 .f32 :=
  shapeCast S1x1 (subf (Host.reduceAdd (lnCol l) (constant S_ .f32 0x00000000#32) reducesTo_S1000x1_S_d0_1 h_S_)
    (Host.reduceAdd p (constant S_ .f32 0x00000000#32) reducesTo_S1000_S_d0 h_S_)) shapeCasts_S_S1x1

/-- The noise with the classes first. -/
def noise (g : FVec Ideal S16384x1000 .f32) : FVec Ideal S1000x16384 .f32 :=
  transpose S1000x16384 [1, 0] g transposes_S16384x1000_S1000x16384_1_0

/-! ## The buffers at the start of the grid -/

variable (m : (ℓ : Loc nD τ sig) → Buf (Elt Ideal) ℓ) (c : Dev nD)

theorem entry_ln : V m c main_v17 = lnCol (m ((c : Thread nD τ).loc main_arg2)) := by
  unfold V V0
  simp only [List.flatten_cons, List.flatten_nil, List.append_nil]
  after_reads_simp
  unfold lnCol logSum finiteTop top
  rfl

/-- Stacks of equal pieces are equal. -/
theorem stack_congr {x x' y y' : FVec Ideal S1x1000 .f32} {z z' : FVec Ideal S6x1000 .f32} (hx : x = x') (hy : y = y') (hz : z = z') :
    concatenate S8x1000 0 [⟨S1x1000, x⟩, ⟨S1x1000, y⟩, ⟨S6x1000, z⟩] concatenates_S1x1000_S1x1000_S6x1000_S8x1000_d0 =
      concatenate S8x1000 0 [⟨S1x1000, x'⟩, ⟨S1x1000, y'⟩, ⟨S6x1000, z'⟩] concatenates_S1x1000_S1x1000_S6x1000_S8x1000_d0 := by
  rw [hx, hy, hz]

theorem entry_weights : V m c main_v25 =
    weights (m ((c : Thread nD τ).loc main_arg2)) (m ((c : Thread nD τ).loc main_arg3)) := by
  unfold V V0
  simp only [List.flatten_cons, List.flatten_nil, List.append_nil]
  after_reads_simp
  unfold weights
  refine congrArg (fun v : FVec Ideal S8x1000 .f32 => truncf .bf16 v bitsLt_bf16_f32) (stack_congr ?_ ?_ ?_)
  · show StableHlo.upto hostOps0 (fun b => m (c, b)) 30 (Proc.devRef .tc main_v22) = _
    after_reads_simp
  · show StableHlo.upto hostOps0 (fun b => m (c, b)) 30 (Proc.devRef .tc main_v21) = _
    after_reads_simp
    unfold lnCol logSum finiteTop top
    rfl
  · show StableHlo.upto hostOps0 (fun b => m (c, b)) 30 (Proc.devRef .tc main_v23) = _
    after_reads_simp

theorem entry_offset : V m c main_v29 =
    offset (m ((c : Thread nD τ).loc main_arg2)) (m ((c : Thread nD τ).loc main_arg3)) := by
  unfold V V0
  simp only [List.flatten_cons, List.flatten_nil, List.append_nil]
  after_reads_simp
  unfold offset lnCol logSum finiteTop top
  rfl

theorem entry_noise : V m c main_v30 = noise (m ((c : Thread nD τ).loc main_arg4)) := by
  unfold V V0
  simp only [List.flatten_cons, List.flatten_nil, List.append_nil]
  after_reads_simp
  rfl

/-! ## Their entries on real arguments -/

variable {l p : FVec Ideal S1000 .f32} {g : FVec Ideal S16384x1000 .f32} {L P : Fin 1000 → ℝ} {G : Fin 16384 → Fin 1000 → ℝ}

theorem top_real (hl : ∀ k, l (ix1 k) = (L k : EReal)) : ∃ M : ℝ, top l (ix1 0) = (M : EReal) := by
  obtain ⟨M, hM⟩ := fold_max_real L
  refine ⟨M, ?_⟩
  have h : top l (ix1 0) = Finset.univ.fold max (Ideal.ofBits FTy.f32 4286578688#32) (fun k : Fin 1000 => l (ix1 k)) := by
    pointwise [top]
  rw [h]
  simp only [hl, bits_bot]
  exact hM

theorem finiteTop_real (hl : ∀ k, l (ix1 k) = (L k : EReal)) : ∃ M : ℝ, finiteTop l (ix1 0) = (M : EReal) := by
  obtain ⟨M, hM⟩ := top_real hl
  have h : finiteTop l (ix1 0) = if max (top l (ix1 0)) (-(top l (ix1 0))) < Ideal.ofBits FTy.f32 2139095040#32
      then top l (ix1 0) else 0 := by
    pointwise [finiteTop, Ideal.absf_def]
  rw [h, hM]
  split
  · exact ⟨M, rfl⟩
  · exact ⟨0, rfl⟩

theorem logSum_real (hl : ∀ k, l (ix1 k) = (L k : EReal)) : logSum l (ix1 0) = (Real.log (total L) : EReal) := by
  obtain ⟨M, hM⟩ := finiteTop_real hl
  have h : logSum l (ix1 0) = Ideal.log (max (∑ k : Fin 1000, Ideal.exp (l (ix1 k) - finiteTop l (ix1 0)))
      (-∑ k : Fin 1000, Ideal.exp (l (ix1 k) - finiteTop l (ix1 0)))) + finiteTop l (ix1 0) := by
    pointwise [logSum, Ideal.absf_def]
  rw [h, hM]
  simp only [hl, ← EReal.coe_sub, Ideal.exp_coe]
  have hp := total_pos fun k => L k - M
  have e : ∑ k, Real.exp (L k - M) = total fun k => L k - M := by unfold total; rfl
  rw [coe_sum, e]
  rw [← EReal.coe_neg, max_eq_left (EReal.coe_le_coe_iff.mpr (by linarith)), log_of_pos hp, log_total_sub, ← EReal.coe_add,
    sub_add_cancel]

/-- The normalised logits. -/
theorem lnCol_real (hl : ∀ k, l (ix1 k) = (L k : EReal)) (k : Fin 1000) : lnCol l (ix2 k 0) = (lnr L k : EReal) := by
  have h : lnCol l (ix2 k 0) = l (ix1 k) - logSum l (ix1 0) := by
    pointwise [lnCol]
  rw [h, hl, logSum_real hl, ← EReal.coe_sub]
  rfl

theorem weights_ones (k : Fin 1000) : weights l p (ix2 0 k) = (1 : EReal) := by
  pointwise [weights]

theorem weights_real (hl : ∀ k, l (ix1 k) = (L k : EReal)) (hp : ∀ k, p (ix1 k) = (P k : EReal)) (k : Fin 1000) :
    weights l p (ix2 1 k) = (Real.exp (P k - lnr L k) : EReal) := by
  have h : weights l p (ix2 1 k) = Ideal.exp (p (ix1 k) - lnCol l (ix2 k 0)) := by
    pointwise [weights]
  rw [h, hp, lnCol_real hl, ← EReal.coe_sub, Ideal.exp_coe]

theorem offset_real (hl : ∀ k, l (ix1 k) = (L k : EReal)) (hp : ∀ k, p (ix1 k) = (P k : EReal)) :
    offset l p (ix2 0 0) = ((∑ k, lnr L k - ∑ k, P k : ℝ) : EReal) := by
  have h : offset l p (ix2 0 0) = ∑ k : Fin 1000, lnCol l (ix2 k 0) - ∑ k : Fin 1000, p (ix1 k) := by
    pointwise [offset]
    simp only [Fin.sum_univ_one]
  rw [h]
  simp only [lnCol_real hl, hp]
  rw [coe_sum, coe_sum, ← EReal.coe_sub]

theorem noise_apply (k : Fin 1000) (s : Fin 16384) : noise g (ix2 k s) = g (ix2 s k) := by
  pointwise [noise]

end Cert.KernelValue

end
-- ==== Proof.KernelBlock.lean ====
/- What the kernel's body computes for one block of samples, read at one entry on real arguments. -/
module

public import proofs.«01_k».proof.Proof.Gen.KernelIdeal.Skeleton
public import proofs.«01_k».proof.Proof.Reals
public import Idealize.ShloMosaic.PureOps.IdealRules
public import Idealize.ShloMosaic.Lib.Pointwise

@[expose] public section

set_option Elab.async false
set_option maxRecDepth 16384

noncomputable section

namespace Cert.KernelValue

open Cert.KernelIdeal Cert.KernelIdeal.Gen Cert.FirstTop Cert.Reals Idealize.ShloMosaic Idealize.ShloMosaic.TcCoe

/-- The named constant is the negated reciprocal of the logarithm of 2. -/
theorem named_scale : Named.named (F := Ideal) κ "neg_log2_e" (φ := .f32) 3216550459#32 = ((-(Real.log 2)⁻¹ : ℝ) : EReal) :=
  IdealRules.named_const.ideal_named_scalar _ _ _ _ rfl

variable (ln : FVec Ideal S1000x1 .f32) (w : FVec Ideal S8x1000 .bf16) (g : FVec Ideal S1000x2048 .f32) (c0 : FVec Ideal S1x1 .f32)
  (k : Fin 1000) (s : Fin 2048) (u : Fin 1)

theorem sample_apply : k0_pay2 (F := Ideal) ln g (ix2 k s) =
    FloatOps.sitofp FTy.f32 (BitVec.setWidth 32 (IntOp.cmpi .eq (BitVec.ofNat 32 k.val)
      (Finset.univ.fold IntOp.minsi (2147483647#32) (fun x : Fin 1000 =>
        if Finset.univ.fold max (Ideal.ofBits FTy.f32 4286578688#32) (fun x : Fin 1000 => ln (ix2 x 0) + g (ix2 x s))
            ≤ ln (ix2 x 0) + g (ix2 x s)
        then BitVec.ofNat 32 x.val else 1000#32)))) := by
  pointwise [k0_pay2, k0_pay1]

theorem ratio_apply : k0_pay3 (F := Ideal) w g c0 (ix2 u s) =
    c0 (ix2 0 0) + Ideal.ofBits FTy.f32 1148846080#32 *
      (Ideal.log (∑ x : Fin 1000, w (ix2 1 x) * FloatOps.exp2 (F := Ideal) (φ := .f32) (g (ix2 x s) * Named.named κ "neg_log2_e" 3216550459#32))
      - Ideal.log (∑ x : Fin 1000, w (ix2 0 x) * FloatOps.exp2 (F := Ideal) (φ := .f32) (g (ix2 x s) * Named.named κ "neg_log2_e" 3216550459#32))) := by
  pointwise [k0_pay3, k0_pay1]

variable {ln w g c0} {L P : Fin 1000 → ℝ} {G : Fin 1000 → ℝ} {s}

/-- One entry of a block of the first result. -/
theorem sample_block (hln : ∀ k, ln (ix2 k 0) = (lnr L k : EReal)) (hg : ∀ k, g (ix2 k s) = (G k : EReal)) :
    k0_pay2 (F := Ideal) ln g (ix2 k s) = hard L G k := by
  obtain ⟨i, hi⟩ := exists_first (by norm_num) (perturbed L G)
  have hz : ∀ x, ln (ix2 x 0) + g (ix2 x s) = (perturbed L G x : EReal) := fun x => by
    rw [hln, hg, ← EReal.coe_add]
    rfl
  rw [sample_apply]
  simp only [hz, bits_bot]
  rw [hi.fold_max, hi.fold_min, sitofp_eq, hard_eq hi]

/-- One entry of a block of the second result. -/
theorem ratio_block (h0 : ∀ k, w (ix2 0 k) = (1 : EReal)) (h1 : ∀ k, w (ix2 1 k) = (Real.exp (P k - lnr L k) : EReal))
    (hc : c0 (ix2 0 0) = ((∑ k, lnr L k - ∑ k, P k : ℝ) : EReal)) (hg : ∀ k, g (ix2 k s) = (G k : EReal)) :
    k0_pay3 (F := Ideal) w g c0 (ix2 u s) = (ratio L P G : EReal) := by
  have he : ∀ k, FloatOps.exp2 (F := Ideal) (φ := .f32) (g (ix2 k s) * Named.named κ "neg_log2_e" 3216550459#32)
      = (Real.exp (-G k) : EReal) := fun k => by
    rw [hg, named_scale, ← EReal.coe_mul]
    exact exp2_scaled (G k)
  have hpos : ∀ f : Fin 1000 → ℝ, (∀ k, 0 < f k) → 0 < ∑ k, f k := fun f hf =>
    Finset.sum_pos (fun k _ => hf k) ⟨0, Finset.mem_univ 0⟩
  rw [ratio_apply]
  simp only [he, h0, h1, hc, one_mul, ← EReal.coe_mul]
  rw [coe_sum, coe_sum, log_of_pos (hpos _ fun k => mul_pos (Real.exp_pos _) (Real.exp_pos _)),
    log_of_pos (hpos _ fun k => Real.exp_pos _), bits_thousand, ← EReal.coe_sub, ← EReal.coe_mul, ← EReal.coe_add]
  rfl

end Cert.KernelValue

end
-- ==== Proof.KernelArray.lean ====
/- The kernel's two result arrays after a run, on real arguments: each grid point's blocks, the arrays those blocks
   fill, and the re-layouts that follow the grid. -/
module

public import proofs.«01_k».proof.Proof.KernelEntry
public import proofs.«01_k».proof.Proof.KernelBlock
public import Idealize.ShloMosaic.Lib.Pipeline.ValueKit

@[expose] public section

set_option Elab.async false
set_option maxRecDepth 16384

noncomputable section

namespace Cert.KernelValue

open Cert.KernelIdeal Cert.KernelIdeal.Gen Cert.Reals Idealize.ShloMosaic Idealize.ShloMosaic.TcCoe Idealize.SL.Sem

variable (m : (ℓ : Loc nD τ sig) → Buf (Elt Ideal) ℓ) (ρ : Dev nD → PrngReg) (c : Dev nD)

/-! ## The blocks a grid point sees -/

/-- Where each window stands at a grid point: the small inputs whole, the noise and the results moving along the samples. -/
theorem places : ∀ t : Fin cfg0.N, win0_0.index t = ![0, 0] ∧ win0_1.index t = ![0, 0] ∧ win0_2.index t = ![0, 0]
    ∧ win0_3.index t = ![0, t.val] ∧ win0_4.index t = ![0, t.val] ∧ win0_5.index t = ![0, t.val] :=
  (by decide +kernel : ∀ t : Fin grid0.N, _)

/-- A sample's number, from its grid point and its place in that point's block. -/
def lane (t : Fin cfg0.N) (s : Fin 2048) : Fin 16384 :=
  ⟨t.val * 2048 + s.val, by have := t.isLt; have h : cfg0.N = 8 := rfl; omega⟩

theorem block_ln (t : Fin cfg0.N) (k : Fin 1000) : iblk m c 0 t (ix2 k 0) = lnCol (m (c.tc.loc main_arg2)) (ix2 k 0) := by
  rw [← entry_ln]
  blk_ext [iblk, places t]

theorem block_weights (t : Fin cfg0.N) (u : Fin 8) (k : Fin 1000) :
    iblk m c 1 t (ix2 u k) = weights (m (c.tc.loc main_arg2)) (m (c.tc.loc main_arg3)) (ix2 u k) := by
  rw [← entry_weights]
  blk_ext [iblk, places t]

theorem block_offset (t : Fin cfg0.N) :
    iblk m c 2 t (ix2 0 0) = offset (m (c.tc.loc main_arg2)) (m (c.tc.loc main_arg3)) (ix2 0 0) := by
  rw [← entry_offset]
  blk_ext [iblk, places t]

theorem block_noise (t : Fin cfg0.N) (k : Fin 1000) (s : Fin 2048) :
    iblk m c 3 t (ix2 k s) = noise (m (c.tc.loc main_arg4)) (ix2 k (lane t s)) := by
  rw [← entry_noise]
  blk_ext [iblk, places t, lane]

/-! ## The arrays the grid leaves -/

/-- The first result array, from its blocks. -/
theorem sample_filled (S : Fin 1000 → Fin 16384 → EReal)
    (h : ∀ t k s, k0_pay2 (F := Ideal) (iblk m c 0 t) (iblk m c 3 t) (ix2 k s) = S k (lane t s)) :
    (dats m 0 c).arrAt 4 cfg0.N = fun i => S (i 0) (i 1) := by
  refine (dats m 0 c).arrAt_eq_of_covers 4 _ (by decide +kernel) fun t hf y => ?_
  blk_simp
  rw [after0_4]
  frame_out
  obtain ⟨k, s, rfl⟩ : ∃ (k : Fin 1000) (s : Fin 2048), y = ix2 k s := ⟨y 0, y 1, eq_ix2 y⟩
  refine (h t k s).trans (congrArg₂ S (Fin.ext ?_) (Fin.ext ?_)) <;> blk_simp [places t, lane] <;> simp

/-- The second result array, from its blocks. -/
theorem ratio_filled (R : Fin 16384 → EReal)
    (h : ∀ t s, k0_pay3 (F := Ideal) (iblk m c 1 t) (iblk m c 3 t) (iblk m c 2 t) (ix2 0 s) = R (lane t s)) :
    (dats m 0 c).arrAt 5 cfg0.N = fun i => R (i 1) := by
  refine (dats m 0 c).arrAt_eq_of_covers 5 _ (by decide +kernel) fun t hf y => ?_
  blk_simp
  rw [after0_5]
  frame_out
  obtain ⟨u, s, rfl⟩ : ∃ (u : Fin 1) (s : Fin 2048), y = ix2 u s := ⟨y 0, y 1, eq_ix2 y⟩
  obtain rfl : u = 0 := Subsingleton.elim _ _
  refine (h t s).trans (congrArg R (Fin.ext ?_))
  blk_simp [places t, lane]

/-! ## After the grid -/

/-- The first result is the grid's first array with its two axes exchanged. -/
theorem tail_sample : Pipeline.afterTail₀ cfgs (dats m) 0 (V0 m) [hostOps1] c main_v32 =
    transpose S16384x1000 [1, 0] ((dats m 0 c).arrAt 4 cfg0.N) transposes_S1000x16384_S16384x1000_1_0 := by
  unfold Pipeline.afterTail₀
  simp only [List.flatten_cons, List.flatten_nil, List.append_nil]
  after_results_simp
  exact congrArg (fun x => transpose S16384x1000 [1, 0] x transposes_S1000x16384_S16384x1000_1_0)
    (Pipeline.withArrays_arr spec0 (by decide) c (V0 m c) _ 4)

/-- The second result is the grid's second array laid flat. -/
theorem tail_ratio : Pipeline.afterTail₀ cfgs (dats m) 0 (V0 m) [hostOps1] c main_v33 =
    shapeCast S16384 ((dats m 0 c).arrAt 5 cfg0.N) shapeCasts_S1x16384_S16384 := by
  unfold Pipeline.afterTail₀
  simp only [List.flatten_cons, List.flatten_nil, List.append_nil]
  after_results_simp
  exact congrArg (fun x => shapeCast S16384 x shapeCasts_S1x16384_S16384)
    (Pipeline.withArrays_arr spec0 (by decide) c (V0 m c) _ 5)

/-! ## The results on real arguments -/

variable {L P : Fin 1000 → ℝ} {G : Fin 16384 → Fin 1000 → ℝ}

/-- The first result marks each sample's first largest perturbed logit. -/
theorem sample_result (hl : ∀ k, m (c.tc.loc main_arg2) (ix1 k) = (L k : EReal))
    (hg : ∀ s k, m (c.tc.loc main_arg4) (ix2 s k) = (G s k : EReal)) (s : Fin 16384) (k : Fin 1000) :
    Pipeline.afterTail₀ cfgs (dats m) 0 (V0 m) [hostOps1] c main_v32 (ix2 s k) = hard L (G s) k := by
  have h := sample_filled m c (fun k s => hard L (G s) k) fun t k s =>
    sample_block k (fun k => (block_ln m c t k).trans (lnCol_real hl k))
      fun k => ((block_noise m c t k s).trans (noise_apply k (lane t s))).trans (hg _ k)
  rw [tail_sample, h]
  pointwise

/-- A row laid flat, at one place. -/
theorem flat_apply (R : S1x16384.Idx → EReal) (s : Fin 16384) :
    shapeCast S16384 R shapeCasts_S1x16384_S16384 (ix1 s) = R (ix2 0 s) := by
  pointwise

/-- The second result is each sample's log-ratio of densities. -/
theorem ratio_result (hl : ∀ k, m (c.tc.loc main_arg2) (ix1 k) = (L k : EReal))
    (hp : ∀ k, m (c.tc.loc main_arg3) (ix1 k) = (P k : EReal))
    (hg : ∀ s k, m (c.tc.loc main_arg4) (ix2 s k) = (G s k : EReal)) (s : Fin 16384) :
    Pipeline.afterTail₀ cfgs (dats m) 0 (V0 m) [hostOps1] c main_v33 (ix1 s) = (ratio L P (G s) : EReal) := by
  have h := ratio_filled m c (fun s => (ratio L P (G s) : EReal)) fun t s =>
    ratio_block (u := 0) (fun k => (block_weights m c t 0 k).trans (weights_ones k))
      (fun k => (block_weights m c t 1 k).trans (weights_real hl hp k))
      ((block_offset m c t).trans (offset_real hl hp))
      fun k => ((block_noise m c t k s).trans (noise_apply k (lane t s))).trans (hg _ k)
  rw [tail_ratio, h]
  exact flat_apply _ s

/-! ## The run -/

/-- The kernel's run: its two results are what follows the grid, and its arguments stay as they were. -/
theorem run_results : θ_run defs (onTc (τ := τ) (main (F := Ideal))) ⟨m, fun _ => 0, ρ⟩ fun r => ∀ c : Dev nD,
    r.2.mem (c.tc.loc main_v32) = Pipeline.afterTail₀ cfgs (dats m) 0 (V0 m) [hostOps1] c main_v32
    ∧ r.2.mem (c.tc.loc main_v33) = Pipeline.afterTail₀ cfgs (dats m) 0 (V0 m) [hostOps1] c main_v33
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4) :=
  (θ_run defs _ _).mono (fun _ h c =>
    ⟨(h.1 c).2 main_v32 (Pipeline.mem_restRefs_of main_v32 (by decide) (by decide)),
      (h.1 c).2 main_v33 (Pipeline.mem_restRefs_of main_v33 (by decide) (by decide)), h.2 c⟩)
    (θ_run_and (run_main m ρ) (unchanged m ρ))

end Cert.KernelValue

end
-- ==== Proof.RefRun.lean ====
/- The run of the reference: its operations in five stages, what each stage leaves in the buffer that the next one
   reads, and the two results as functions of the arguments. -/
module

public import proofs.«01_k».proof.Proof.Gen.ReferenceIdeal
public import Idealize.ShloMosaic.PureOps.Ideal
public import Idealize.ShloMosaic.Lib.StableHlo.Run
public import Idealize.ShloMosaic.Lib.Pipeline.Frame

@[expose] public section

set_option Elab.async false

noncomputable section

namespace Cert.RefRun

open Cert.ReferenceIdeal Cert.ReferenceIdeal.Gen Idealize.ShloMosaic Idealize.ShloMosaic.TcCoe Idealize.SL.Sem
  Idealize.ShloMosaic.StableHlo

/-! ## The stages as functions of arrays -/

/-- The logits less the largest of them. -/
def shifted (x : FVec Ideal S1000 .f32) : FVec Ideal S1000 .f32 :=
  subf x (broadcastInDim S1000 ![0] bcast_S1_S1000_0 (broadcastInDim S1 ![] bcast_S_S1
    (maximumf (constant S_ .f32 0xFF800000#32)
      (Host.reduce FloatOps.maximumf x (constant S_ .f32 0xFF800000#32) reducesTo_S1000_S_d0 h_S_))))

/-- The logits less their log-sum-exp. -/
def normalise (x : FVec Ideal S1000 .f32) : FVec Ideal S1000 .f32 :=
  subf (shifted x) (broadcastInDim S1000 ![0] bcast_S1_S1000_0 (Host.log (broadcastInDim S1 ![] bcast_S_S1
    (Host.reduceAdd (Host.exp (shifted x)) (constant S_ .f32 0x00000000#32) reducesTo_S1000_S_d0 h_S_))))

/-- One row of class values, repeated for every sample. -/
def everySample (x : FVec Ideal S1000 .f32) : FVec Ideal S16384x1000 .f32 :=
  broadcastInDim S16384x1000 ![0, 1] bcast_S1x1000_S16384x1000_0_1 (broadcastInDim S1x1000 ![1] bcast_S1000_S1x1000_1 x)

/-- One value per sample, repeated for every class. -/
def everyClass (x : FVec Ideal S16384x1 .f32) : FVec Ideal S16384x1000 .f32 :=
  broadcastInDim S16384x1000 ![0, 1] bcast_S16384x1_S16384x1000_0_1 x

/-- The sum over the classes, per sample. -/
def classSum (x : FVec Ideal S16384x1000 .f32) : FVec Ideal S16384 .f32 :=
  Host.reduceAdd x (constant S_ .f32 0x00000000#32) reducesTo_S16384x1000_S16384_d1 h_S_

/-- A vector over the samples as one column. -/
def column (x : FVec Ideal S16384 .f32) : FVec Ideal S16384x1 .f32 :=
  broadcastInDim S16384x1 ![0] bcast_S16384_S16384x1_0 x

/-- The largest value over the classes, per sample, as one column. -/
def classTop (x : FVec Ideal S16384x1000 .f32) : FVec Ideal S16384x1 .f32 :=
  column (maximumf (broadcastInDim S16384 ![] bcast_S_S16384 (constant S_ .f32 0xFF800000#32))
    (Host.reduce FloatOps.maximumf x (constant S_ .f32 0xFF800000#32) reducesTo_S16384x1000_S16384_d1 h_S_))

/-- The perturbed logits over the temperature. -/
def scaled (t : FVec Ideal S_ .f32) (ln : FVec Ideal S1000 .f32) (g : FVec Ideal S16384x1000 .f32) : FVec Ideal S16384x1000 .f32 :=
  Host.divf (addf (everySample ln) g) (broadcastInDim S16384x1000 ![] bcast_S_S16384x1000 t)

/-- Each row less its largest entry. -/
def lessTop (z : FVec Ideal S16384x1000 .f32) : FVec Ideal S16384x1000 .f32 := subf z (everyClass (classTop z))

/-- Each row divided by its sum. -/
def overSum (e : FVec Ideal S16384x1000 .f32) : FVec Ideal S16384x1000 .f32 :=
  Host.divf e (everyClass (column (classSum e)))

/-- The relaxed sample: the softmax of the scaled logits, divided by its own sum. -/
def relaxed (t : FVec Ideal S_ .f32) (ln : FVec Ideal S1000 .f32) (g : FVec Ideal S16384x1000 .f32) : FVec Ideal S16384x1000 .f32 :=
  overSum (overSum (Host.exp (lessTop (scaled t ln g))))

/-- Each row less its log-sum-exp. -/
def normaliseRows (x : FVec Ideal S16384x1000 .f32) : FVec Ideal S16384x1000 .f32 :=
  subf (lessTop x) (everyClass (Host.log (column (classSum (Host.exp (lessTop x))))))

/-- The scores of a relaxed sample: the logits less the temperature times the sample's logarithm. -/
def scores (t : FVec Ideal S_ .f32) (ln : FVec Ideal S1000 .f32) (y : FVec Ideal S16384x1000 .f32) : FVec Ideal S16384x1000 .f32 :=
  subf (everySample ln) (mulf (Host.log y) (broadcastInDim S16384x1000 ![] bcast_S_S16384x1000 t))

/-- The constant of the density: the logarithm of the factorial of 999, and 999 logarithms of the temperature. -/
def logScale (t : FVec Ideal S_ .f32) : FVec Ideal S_ .f32 :=
  addf (constant S_ .f32 0x45B889C3#32) (mulf (constant S_ .f32 0x4479C000#32) (Host.log t))

/-- The log density of a relaxed sample under a row of logits. -/
def density (t : FVec Ideal S_ .f32) (ln : FVec Ideal S1000 .f32) (y : FVec Ideal S16384x1000 .f32) : FVec Ideal S16384 .f32 :=
  subf (addf (classSum (normaliseRows (scores t ln y))) (broadcastInDim S16384 ![] bcast_S_S16384 (logScale t)))
    (classSum (Host.log y))

/-- The class of the largest entry of each row, the first of several. -/
def firstTop (y : FVec Ideal S16384x1000 .f32) : IVec S16384 32 := fun j =>
  (Host.argReduce reducer_argmax_f32_i32 y (iotaInDim S16384x1000 32 1) (constant S_ .f32 0xFF800000#32) (constantI S_ 32 0#32)
    reducesTo_S16384x1000_S16384_d1 h_S_ j).2

/-- The one-hot rows of a class per sample. -/
def oneHot (k : IVec S16384 32) : FVec Ideal S16384x1000 .f32 :=
  uitofp .f32 (cmpi .eq
    (broadcastInDim S16384x1000 ![0, 1] bcast_S16384x1_S16384x1000_0_1 (broadcastInDim S16384x1 ![0] bcast_S16384_S16384x1_0 k))
    (broadcastInDim S16384x1000 ![0, 1] bcast_S1x1000_S16384x1000_0_1 (iotaInDim S1x1000 32 1)))

/-- The sample with the hard sample's value. -/
def straight (y : FVec Ideal S16384x1000 .f32) : FVec Ideal S16384x1000 .f32 := addf y (subf (oneHot (firstTop y)) y)

/-! ## The operations -/

/-- The operations that compute the row of class values `x` less its log-sum-exp, over one call's buffers. -/
abbrev logitOps (x : TRef sig ⟨S1000, .f32⟩) (φ : fn_log_softmax.Bufs) : List (HloOp τ sig (Elt Ideal)) :=
  [ TRef.nullary φ.cst (constant (F := Ideal) S_ .f32 0xFF800000#32),
    TRef.binary x φ.cst φ.v0 (fun x v => Host.reduce (FloatOps.maximumf (F := Ideal) (φ := .f32)) x v reducesTo_S1000_S_d0 h_S_),
    TRef.nullary φ.cst_0 (constant (F := Ideal) S_ .f32 0xFF800000#32),
    TRef.binary φ.cst_0 φ.v0 φ.v1 (maximumf (F := Ideal) (φ := .f32)),
    TRef.unary φ.v1 φ.v2 (broadcastInDim S1 ![] bcast_S_S1),
    TRef.unary φ.v2 φ.v3 (broadcastInDim S1000 ![0] bcast_S1_S1000_0),
    TRef.binary x φ.v3 φ.v4 (subf (F := Ideal) (φ := .f32)),
    TRef.unary φ.v4 φ.v5 (Host.exp (F := Ideal) (φ := .f32)),
    TRef.nullary φ.cst_1 (constant (F := Ideal) S_ .f32 0x00000000#32),
    TRef.binary φ.v5 φ.cst_1 φ.v6 (fun x v => Host.reduceAdd (F := Ideal) (φ := .f32) x v reducesTo_S1000_S_d0 h_S_),
    TRef.unary φ.v6 φ.v7 (broadcastInDim S1 ![] bcast_S_S1),
    TRef.unary φ.v7 φ.v8 (Host.log (F := Ideal) (φ := .f32)),
    TRef.unary φ.v8 φ.v9 (broadcastInDim S1000 ![0] bcast_S1_S1000_0),
    TRef.binary φ.v4 φ.v9 φ.v10 (subf (F := Ideal) (φ := .f32)) ]

/-- The operations that compute each row of the table `x` less its log-sum-exp, over one call's buffers. -/
abbrev rowOps (x : TRef sig ⟨S16384x1000, .f32⟩) (φ : fn_log_softmax_0.Bufs) : List (HloOp τ sig (Elt Ideal)) :=
  [ TRef.nullary φ.cst (constant (F := Ideal) S_ .f32 0xFF800000#32),
    TRef.binary x φ.cst φ.v0 (fun x v => Host.reduce (FloatOps.maximumf (F := Ideal) (φ := .f32)) x v reducesTo_S16384x1000_S16384_d1 h_S_),
    TRef.nullary φ.cst_0 (constant (F := Ideal) S_ .f32 0xFF800000#32),
    TRef.unary φ.cst_0 φ.v1 (broadcastInDim S16384 ![] bcast_S_S16384),
    TRef.binary φ.v1 φ.v0 φ.v2 (maximumf (F := Ideal) (φ := .f32)),
    TRef.unary φ.v2 φ.v3 (broadcastInDim S16384x1 ![0] bcast_S16384_S16384x1_0),
    TRef.unary φ.v3 φ.v4 (broadcastInDim S16384x1000 ![0, 1] bcast_S16384x1_S16384x1000_0_1),
    TRef.binary x φ.v4 φ.v5 (subf (F := Ideal) (φ := .f32)),
    TRef.unary φ.v5 φ.v6 (Host.exp (F := Ideal) (φ := .f32)),
    TRef.nullary φ.cst_1 (constant (F := Ideal) S_ .f32 0x00000000#32),
    TRef.binary φ.v6 φ.cst_1 φ.v7 (fun x v => Host.reduceAdd (F := Ideal) (φ := .f32) x v reducesTo_S16384x1000_S16384_d1 h_S_),
    TRef.unary φ.v7 φ.v8 (broadcastInDim S16384x1 ![0] bcast_S16384_S16384x1_0),
    TRef.unary φ.v8 φ.v9 (Host.log (F := Ideal) (φ := .f32)),
    TRef.unary φ.v9 φ.v10 (broadcastInDim S16384x1000 ![0, 1] bcast_S16384x1_S16384x1000_0_1),
    TRef.binary φ.v5 φ.v10 φ.v11 (subf (F := Ideal) (φ := .f32)) ]

/-- The operations that compute the class of the largest entry of each row of `x`, over one call's buffers. -/
abbrev topOps (x : TRef sig ⟨S16384x1000, .f32⟩) (φ : fn_argmax.Bufs) : List (HloOp τ sig (Elt Ideal)) :=
  [ TRef.nullary φ.v0 (iotaInDim S16384x1000 32 1),
    TRef.nullary φ.cst (constant (F := Ideal) S_ .f32 0xFF800000#32),
    TRef.nullary φ.c (constantI S_ 32 0#32),
    TRef.quaternary x φ.v0 φ.cst φ.c φ.v1_0 (fun x y u v j => (Host.argReduce (reducer_argmax_f32_i32 (F := Ideal)) x y u v reducesTo_S16384x1000_S16384_d1 h_S_ j).1),
    TRef.quaternary x φ.v0 φ.cst φ.c φ.v1_1 (fun x y u v j => (Host.argReduce (reducer_argmax_f32_i32 (F := Ideal)) x y u v reducesTo_S16384x1000_S16384_d1 h_S_ j).2) ]

/-- The operations that compute the one-hot rows of the classes `x`, over one call's buffers. -/
abbrev hotOps (x : TRef sig ⟨S16384, .i32⟩) (φ : fn_one_hot.Bufs) : List (HloOp τ sig (Elt Ideal)) :=
  [ TRef.unary x φ.v0 (broadcastInDim S16384x1 ![0] bcast_S16384_S16384x1_0),
    TRef.nullary φ.v1 (iotaInDim S1x1000 32 1),
    TRef.unary φ.v0 φ.v2 (broadcastInDim S16384x1000 ![0, 1] bcast_S16384x1_S16384x1000_0_1),
    TRef.unary φ.v1 φ.v3 (broadcastInDim S16384x1000 ![0, 1] bcast_S1x1000_S16384x1000_0_1),
    TRef.binary φ.v2 φ.v3 φ.v4 (cmpi .eq),
    TRef.unary φ.v4 φ.v5 (uitofp (F := Ideal) .f32) ]

/-- The operations that compute the logits less their log-sum-exp (`main_v0`). -/
abbrev normaliseOps : List (HloOp τ sig (Elt Ideal)) :=
  logitOps (.of main_arg2) main_call0

/-- The buffers they write. -/
abbrev normaliseOps_W : List (Ref sig .tc) :=
  [main_call0_cst, main_call0_v0, main_call0_cst_0, main_call0_v1, main_call0_v2, main_call0_v3, main_call0_v4,
    main_call0_v5, main_call0_cst_1, main_call0_v6, main_call0_v7, main_call0_v8, main_call0_v9, main_v0]

/-- The operations that compute the relaxed sample: the softmax of the perturbed logits over the temperature, divided by its own sum (`main_v20`). -/
abbrev softmaxOps : List (HloOp τ sig (Elt Ideal)) :=
  [ unary main_v0 main_v1 (broadcastInDim S1x1000 ![1] bcast_S1000_S1x1000_1),
    unary main_v1 main_v2 (broadcastInDim S16384x1000 ![0, 1] bcast_S1x1000_S16384x1000_0_1),
    binary main_v2 main_arg4 main_v3 (addf (F := Ideal) (φ := .f32)),
    unary main_arg1 main_v4 (broadcastInDim S16384x1000 ![] bcast_S_S16384x1000),
    binary main_v3 main_v4 main_v5 (Host.divf (F := Ideal) (φ := .f32)),
    nullary main_cst (constant (F := Ideal) S_ .f32 0xFF800000#32),
    binary main_v5 main_cst main_v6 (fun x v => Host.reduce (FloatOps.maximumf (F := Ideal) (φ := .f32)) x v reducesTo_S16384x1000_S16384_d1 h_S_),
    nullary main_cst_0 (constant (F := Ideal) S_ .f32 0xFF800000#32),
    unary main_cst_0 main_v7 (broadcastInDim S16384 ![] bcast_S_S16384),
    binary main_v7 main_v6 main_v8 (maximumf (F := Ideal) (φ := .f32)),
    unary main_v8 main_v9 (broadcastInDim S16384x1 ![0] bcast_S16384_S16384x1_0),
    unary main_v9 main_v10 (broadcastInDim S16384x1000 ![0, 1] bcast_S16384x1_S16384x1000_0_1),
    binary main_v5 main_v10 main_v11 (subf (F := Ideal) (φ := .f32)),
    unary main_v11 main_v12 (Host.exp (F := Ideal) (φ := .f32)),
    nullary main_cst_1 (constant (F := Ideal) S_ .f32 0x00000000#32),
    binary main_v12 main_cst_1 main_v13 (fun x v => Host.reduceAdd (F := Ideal) (φ := .f32) x v reducesTo_S16384x1000_S16384_d1 h_S_),
    unary main_v13 main_v14 (broadcastInDim S16384x1 ![0] bcast_S16384_S16384x1_0),
    unary main_v14 main_v15 (broadcastInDim S16384x1000 ![0, 1] bcast_S16384x1_S16384x1000_0_1),
    binary main_v12 main_v15 main_v16 (Host.divf (F := Ideal) (φ := .f32)),
    nullary main_cst_2 (constant (F := Ideal) S_ .f32 0x00000000#32),
    binary main_v16 main_cst_2 main_v17 (fun x v => Host.reduceAdd (F := Ideal) (φ := .f32) x v reducesTo_S16384x1000_S16384_d1 h_S_),
    unary main_v17 main_v18 (broadcastInDim S16384x1 ![0] bcast_S16384_S16384x1_0),
    unary main_v18 main_v19 (broadcastInDim S16384x1000 ![0, 1] bcast_S16384x1_S16384x1000_0_1),
    binary main_v16 main_v19 main_v20 (Host.divf (F := Ideal) (φ := .f32)) ]

/-- The buffers they write. -/
abbrev softmaxOps_W : List (Ref sig .tc) :=
  [main_v1, main_v2, main_v3, main_v4, main_v5, main_cst, main_v6, main_cst_0, main_v7, main_v8, main_v9, main_v10,
    main_v11, main_v12, main_cst_1, main_v13, main_v14, main_v15, main_v16, main_cst_2, main_v17, main_v18, main_v19,
    main_v20]

/-- The operations that compute the log density of the relaxed sample under the logits (`main_v35`). -/
abbrev densityOps : List (HloOp τ sig (Elt Ideal)) :=
  [ unary main_v20 main_v21 (Host.log (F := Ideal) (φ := .f32)),
    unary main_arg1 main_v22 (broadcastInDim S16384x1000 ![] bcast_S_S16384x1000),
    binary main_v21 main_v22 main_v23 (mulf (F := Ideal) (φ := .f32)),
    unary main_v0 main_v24 (broadcastInDim S1x1000 ![1] bcast_S1000_S1x1000_1),
    unary main_v24 main_v25 (broadcastInDim S16384x1000 ![0, 1] bcast_S1x1000_S16384x1000_0_1),
    binary main_v25 main_v23 main_v26 (subf (F := Ideal) (φ := .f32)) ] ++
  rowOps (.of main_v26) main_call1 ++
  [ nullary main_cst_3 (constant (F := Ideal) S_ .f32 0x00000000#32),
    binary main_v27 main_cst_3 main_v28 (fun x v => Host.reduceAdd (F := Ideal) (φ := .f32) x v reducesTo_S16384x1000_S16384_d1 h_S_),
    unary main_arg1 main_v29 (Host.log (F := Ideal) (φ := .f32)),
    nullary main_cst_4 (constant (F := Ideal) S_ .f32 0x4479C000#32),
    binary main_cst_4 main_v29 main_v30 (mulf (F := Ideal) (φ := .f32)),
    nullary main_cst_5 (constant (F := Ideal) S_ .f32 0x45B889C3#32),
    binary main_cst_5 main_v30 main_v31 (addf (F := Ideal) (φ := .f32)),
    unary main_v31 main_v32 (broadcastInDim S16384 ![] bcast_S_S16384),
    binary main_v28 main_v32 main_v33 (addf (F := Ideal) (φ := .f32)),
    nullary main_cst_6 (constant (F := Ideal) S_ .f32 0x00000000#32),
    binary main_v21 main_cst_6 main_v34 (fun x v => Host.reduceAdd (F := Ideal) (φ := .f32) x v reducesTo_S16384x1000_S16384_d1 h_S_),
    binary main_v33 main_v34 main_v35 (subf (F := Ideal) (φ := .f32)) ]

/-- The buffers they write. -/
abbrev densityOps_W : List (Ref sig .tc) :=
  [main_v21, main_v22, main_v23, main_v24, main_v25, main_v26, main_call1_cst, main_call1_v0, main_call1_cst_0,
    main_call1_v1, main_call1_v2, main_call1_v3, main_call1_v4, main_call1_v5, main_call1_v6, main_call1_cst_1,
    main_call1_v7, main_call1_v8, main_call1_v9, main_call1_v10, main_v27, main_cst_3, main_v28, main_v29, main_cst_4,
    main_v30, main_cst_5, main_v31, main_v32, main_v33, main_cst_6, main_v34, main_v35]

/-- The operations that compute the log density of the relaxed sample under the prior, first part. -/
abbrev priorOps₁ : List (HloOp τ sig (Elt Ideal)) :=
  [ unary main_v20 main_v36 (Host.log (F := Ideal) (φ := .f32)),
    unary main_arg1 main_v37 (broadcastInDim S16384x1000 ![] bcast_S_S16384x1000),
    binary main_v36 main_v37 main_v38 (mulf (F := Ideal) (φ := .f32)),
    unary main_arg3 main_v39 (broadcastInDim S1x1000 ![1] bcast_S1000_S1x1000_1),
    unary main_v39 main_v40 (broadcastInDim S16384x1000 ![0, 1] bcast_S1x1000_S16384x1000_0_1),
    binary main_v40 main_v38 main_v41 (subf (F := Ideal) (φ := .f32)) ] ++
  rowOps (.of main_v41) main_call2 ++
  [ nullary main_cst_7 (constant (F := Ideal) S_ .f32 0x00000000#32),
    binary main_v42 main_cst_7 main_v43 (fun x v => Host.reduceAdd (F := Ideal) (φ := .f32) x v reducesTo_S16384x1000_S16384_d1 h_S_),
    unary main_arg1 main_v44 (Host.log (F := Ideal) (φ := .f32)),
    nullary main_cst_8 (constant (F := Ideal) S_ .f32 0x4479C000#32),
    binary main_cst_8 main_v44 main_v45 (mulf (F := Ideal) (φ := .f32)),
    nullary main_cst_9 (constant (F := Ideal) S_ .f32 0x45B889C3#32),
    binary main_cst_9 main_v45 main_v46 (addf (F := Ideal) (φ := .f32)),
    unary main_v46 main_v47 (broadcastInDim S16384 ![] bcast_S_S16384),
    binary main_v43 main_v47 main_v48 (addf (F := Ideal) (φ := .f32)) ]

/-- The buffers they write. -/
abbrev priorOps₁_W : List (Ref sig .tc) :=
  [main_v36, main_v37, main_v38, main_v39, main_v40, main_v41, main_call2_cst, main_call2_v0, main_call2_cst_0,
    main_call2_v1, main_call2_v2, main_call2_v3, main_call2_v4, main_call2_v5, main_call2_v6, main_call2_cst_1,
    main_call2_v7, main_call2_v8, main_call2_v9, main_call2_v10, main_v42, main_cst_7, main_v43, main_v44, main_cst_8,
    main_v45, main_cst_9, main_v46, main_v47, main_v48]

/-- The operations that compute the log density of the relaxed sample under the prior, last part (`main_v50`). -/
abbrev priorOps₂ : List (HloOp τ sig (Elt Ideal)) :=
  [ nullary main_cst_10 (constant (F := Ideal) S_ .f32 0x00000000#32),
    binary main_v36 main_cst_10 main_v49 (fun x v => Host.reduceAdd (F := Ideal) (φ := .f32) x v reducesTo_S16384x1000_S16384_d1 h_S_),
    binary main_v48 main_v49 main_v50 (subf (F := Ideal) (φ := .f32)) ]

/-- The buffers they write. -/
abbrev priorOps₂_W : List (Ref sig .tc) :=
  [main_cst_10, main_v49, main_v50]

/-- The operations that compute the hard sample and the two results (`main_v54`, `main_v55`). -/
abbrev resultOps : List (HloOp τ sig (Elt Ideal)) :=
  topOps (.of main_v20) main_call3 ++
  hotOps (.of main_v51) main_call4 ++
  [ binary main_v52 main_v20 main_v53 (subf (F := Ideal) (φ := .f32)),
    binary main_v20 main_v53 main_v54 (addf (F := Ideal) (φ := .f32)),
    binary main_v35 main_v50 main_v55 (subf (F := Ideal) (φ := .f32)) ]

/-- The buffers they write. -/
abbrev resultOps_W : List (Ref sig .tc) :=
  [main_call3_v0, main_call3_cst, main_call3_c, main_call3_v1_0, main_v51, main_call4_v0, main_call4_v1,
    main_call4_v2, main_call4_v3, main_call4_v4, main_v52, main_v53, main_v54, main_v55]

/-- All the operations. -/
abbrev allOps : List (HloOp τ sig (Elt Ideal)) :=
  (normaliseOps ++ (softmaxOps ++ (densityOps ++ priorOps₁))) ++ (priorOps₂ ++ resultOps)

set_option maxRecDepth 8192 in
set_option maxHeartbeats 4000000 in
theorem part0_eq (c : Dev nD) : main_part0 (F := Ideal) c = seq (normaliseOps ++ (softmaxOps ++ (densityOps ++ priorOps₁))) := rfl
set_option maxRecDepth 8192 in
theorem part1_eq (c : Dev nD) : main_part1 (F := Ideal) c = seq (priorOps₂ ++ resultOps) := rfl

/-- The program is its operations in order. -/
theorem main_eq (c : Dev nD) : main (F := Ideal) c = seq allOps := by
  rw [seq_append, ← part0_eq c, ← part1_eq c]
  rfl

/-! Each stage writes the buffers listed, and nothing fresh; it touches only the buffers of the program. -/

set_option maxRecDepth 8192 in
theorem normaliseOps_writes : (normaliseOps : List (HloOp τ sig (Elt Ideal))).Forall fun op =>
    op.writes ⊆ (normaliseOps_W.map (Proc.devRef (τ := τ) .tc)).toFinset := forall_writes_sub_of_map rfl
set_option maxRecDepth 8192 in
theorem normaliseOps_fresh : (normaliseOps : List (HloOp τ sig (Elt Ideal))).Forall fun op => op.fresh = ∅ := forall_fresh_of_map rfl
set_option maxRecDepth 8192 in
theorem normaliseOps_sub : (normaliseOps : List (HloOp τ sig (Elt Ideal))).Forall fun op => op.bufs ⊆ tcRefs τ sig := by
  simp only [normaliseOps, logitOps, rowOps, topOps, hotOps, List.cons_append, List.nil_append, List.forall_cons, List.Forall, TRef.nullary, TRef.unary, TRef.binary, TRef.quaternary, nullary_bufs_sub,
    unary_bufs_sub, binary_bufs_sub, ternary_bufs_sub, quaternary_bufs_sub, and_self]

set_option maxRecDepth 8192 in
theorem softmaxOps_writes : (softmaxOps : List (HloOp τ sig (Elt Ideal))).Forall fun op =>
    op.writes ⊆ (softmaxOps_W.map (Proc.devRef (τ := τ) .tc)).toFinset := forall_writes_sub_of_map rfl
set_option maxRecDepth 8192 in
theorem softmaxOps_fresh : (softmaxOps : List (HloOp τ sig (Elt Ideal))).Forall fun op => op.fresh = ∅ := forall_fresh_of_map rfl
set_option maxRecDepth 8192 in
theorem softmaxOps_sub : (softmaxOps : List (HloOp τ sig (Elt Ideal))).Forall fun op => op.bufs ⊆ tcRefs τ sig := by
  simp only [softmaxOps, logitOps, rowOps, topOps, hotOps, List.cons_append, List.nil_append, List.forall_cons, List.Forall, TRef.nullary, TRef.unary, TRef.binary, TRef.quaternary, nullary_bufs_sub,
    unary_bufs_sub, binary_bufs_sub, ternary_bufs_sub, quaternary_bufs_sub, and_self]

set_option maxRecDepth 8192 in
theorem densityOps_writes : (densityOps : List (HloOp τ sig (Elt Ideal))).Forall fun op =>
    op.writes ⊆ (densityOps_W.map (Proc.devRef (τ := τ) .tc)).toFinset := forall_writes_sub_of_map rfl
set_option maxRecDepth 8192 in
theorem densityOps_fresh : (densityOps : List (HloOp τ sig (Elt Ideal))).Forall fun op => op.fresh = ∅ := forall_fresh_of_map rfl
set_option maxRecDepth 8192 in
theorem densityOps_sub : (densityOps : List (HloOp τ sig (Elt Ideal))).Forall fun op => op.bufs ⊆ tcRefs τ sig := by
  simp only [densityOps, logitOps, rowOps, topOps, hotOps, List.cons_append, List.nil_append, List.forall_cons, List.Forall, TRef.nullary, TRef.unary, TRef.binary, TRef.quaternary, nullary_bufs_sub,
    unary_bufs_sub, binary_bufs_sub, ternary_bufs_sub, quaternary_bufs_sub, and_self]

set_option maxRecDepth 8192 in
theorem priorOps₁_writes : (priorOps₁ : List (HloOp τ sig (Elt Ideal))).Forall fun op =>
    op.writes ⊆ (priorOps₁_W.map (Proc.devRef (τ := τ) .tc)).toFinset := forall_writes_sub_of_map rfl
set_option maxRecDepth 8192 in
theorem priorOps₁_fresh : (priorOps₁ : List (HloOp τ sig (Elt Ideal))).Forall fun op => op.fresh = ∅ := forall_fresh_of_map rfl
set_option maxRecDepth 8192 in
theorem priorOps₁_sub : (priorOps₁ : List (HloOp τ sig (Elt Ideal))).Forall fun op => op.bufs ⊆ tcRefs τ sig := by
  simp only [priorOps₁, logitOps, rowOps, topOps, hotOps, List.cons_append, List.nil_append, List.forall_cons, List.Forall, TRef.nullary, TRef.unary, TRef.binary, TRef.quaternary, nullary_bufs_sub,
    unary_bufs_sub, binary_bufs_sub, ternary_bufs_sub, quaternary_bufs_sub, and_self]

set_option maxRecDepth 8192 in
theorem priorOps₂_writes : (priorOps₂ : List (HloOp τ sig (Elt Ideal))).Forall fun op =>
    op.writes ⊆ (priorOps₂_W.map (Proc.devRef (τ := τ) .tc)).toFinset := forall_writes_sub_of_map rfl
set_option maxRecDepth 8192 in
theorem priorOps₂_fresh : (priorOps₂ : List (HloOp τ sig (Elt Ideal))).Forall fun op => op.fresh = ∅ := forall_fresh_of_map rfl
set_option maxRecDepth 8192 in
theorem priorOps₂_sub : (priorOps₂ : List (HloOp τ sig (Elt Ideal))).Forall fun op => op.bufs ⊆ tcRefs τ sig := by
  simp only [priorOps₂, logitOps, rowOps, topOps, hotOps, List.cons_append, List.nil_append, List.forall_cons, List.Forall, TRef.nullary, TRef.unary, TRef.binary, TRef.quaternary, nullary_bufs_sub,
    unary_bufs_sub, binary_bufs_sub, ternary_bufs_sub, quaternary_bufs_sub, and_self]

set_option maxRecDepth 8192 in
theorem resultOps_writes : (resultOps : List (HloOp τ sig (Elt Ideal))).Forall fun op =>
    op.writes ⊆ (resultOps_W.map (Proc.devRef (τ := τ) .tc)).toFinset := forall_writes_sub_of_map rfl
set_option maxRecDepth 8192 in
theorem resultOps_fresh : (resultOps : List (HloOp τ sig (Elt Ideal))).Forall fun op => op.fresh = ∅ := forall_fresh_of_map rfl
set_option maxRecDepth 8192 in
theorem resultOps_sub : (resultOps : List (HloOp τ sig (Elt Ideal))).Forall fun op => op.bufs ⊆ tcRefs τ sig := by
  simp only [resultOps, logitOps, rowOps, topOps, hotOps, List.cons_append, List.nil_append, List.forall_cons, List.Forall, TRef.nullary, TRef.unary, TRef.binary, TRef.quaternary, nullary_bufs_sub,
    unary_bufs_sub, binary_bufs_sub, ternary_bufs_sub, quaternary_bufs_sub, and_self]

/-! ## What each stage leaves -/

section Values

variable (V : Valuation τ sig (Elt Ideal))

set_option maxRecDepth 8192 in
set_option maxHeartbeats 2000000 in
theorem after_normalise : after normaliseOps V (Proc.devRef .tc main_v0) = normalise (V (Proc.devRef .tc main_arg2)) := by
  simp only [normaliseOps, logitOps, rowOps, topOps, hotOps, List.cons_append, List.nil_append,
    TRef.quaternary, TRef.binary, TRef.nullary, TRef.unary, TRef.toBuf, TRef.ofBuf, cast_eq]
  after_results_simp
  rfl

set_option maxRecDepth 8192 in
set_option maxHeartbeats 2000000 in
theorem after_softmax : after softmaxOps V (Proc.devRef .tc main_v20) =
    relaxed (V (Proc.devRef .tc main_arg1)) (V (Proc.devRef .tc main_v0)) (V (Proc.devRef .tc main_arg4)) := by
  simp only [softmaxOps, logitOps, rowOps, topOps, hotOps, List.cons_append, List.nil_append,
    TRef.quaternary, TRef.binary, TRef.nullary, TRef.unary, TRef.toBuf, TRef.ofBuf, cast_eq]
  after_results_simp
  rfl

set_option maxRecDepth 8192 in
set_option maxHeartbeats 2000000 in
theorem after_density : after densityOps V (Proc.devRef .tc main_v35) =
    density (V (Proc.devRef .tc main_arg1)) (V (Proc.devRef .tc main_v0)) (V (Proc.devRef .tc main_v20)) := by
  simp only [densityOps, logitOps, rowOps, topOps, hotOps, List.cons_append, List.nil_append,
    TRef.quaternary, TRef.binary, TRef.nullary, TRef.unary, TRef.toBuf, TRef.ofBuf, cast_eq]
  after_results_simp
  rfl

set_option maxRecDepth 8192 in
set_option maxHeartbeats 2000000 in
theorem after_prior : after (priorOps₁ ++ priorOps₂) V (Proc.devRef .tc main_v50) =
    density (V (Proc.devRef .tc main_arg1)) (V (Proc.devRef .tc main_arg3)) (V (Proc.devRef .tc main_v20)) := by
  simp only [priorOps₁, priorOps₂, logitOps, rowOps, topOps, hotOps, List.cons_append, List.nil_append,
    TRef.quaternary, TRef.binary, TRef.nullary, TRef.unary, TRef.toBuf, TRef.ofBuf, cast_eq]
  after_results_simp
  rfl

set_option maxRecDepth 8192 in
set_option maxHeartbeats 2000000 in
theorem after_sample : after resultOps V (Proc.devRef .tc main_v54) = straight (V (Proc.devRef .tc main_v20)) := by
  simp only [resultOps, logitOps, rowOps, topOps, hotOps, List.cons_append, List.nil_append,
    TRef.quaternary, TRef.binary, TRef.nullary, TRef.unary, TRef.toBuf, TRef.ofBuf, cast_eq]
  after_results_simp
  rfl

set_option maxRecDepth 8192 in
set_option maxHeartbeats 2000000 in
theorem after_difference : after resultOps V (Proc.devRef .tc main_v55) =
    (subf (V (Proc.devRef .tc main_v35) : FVec Ideal S16384 .f32) (V (Proc.devRef .tc main_v50)) : FVec Ideal S16384 .f32) := by
  simp only [resultOps, logitOps, rowOps, topOps, hotOps, List.cons_append, List.nil_append,
    TRef.quaternary, TRef.binary, TRef.nullary, TRef.unary, TRef.toBuf, TRef.ofBuf, cast_eq]
  after_results_simp

end Values

end Cert.RefRun

end
-- ==== Proof.RefEntries.lean ====
/- The stages of the reference read at one entry. -/
module

public import proofs.«01_k».proof.Proof.RefRun
public import Idealize.ShloMosaic.PureOps.Ideal.Laws
public import Idealize.ShloMosaic.Lib.Pointwise

@[expose] public section

set_option Elab.async false

noncomputable section

namespace Cert.RefRun

open Cert.ReferenceIdeal Cert.ReferenceIdeal.Gen Idealize.ShloMosaic Idealize.ShloMosaic.TcCoe

variable (x : FVec Ideal S1000 .f32) (z : FVec Ideal S16384x1000 .f32) (c : FVec Ideal S16384x1 .f32)
  (v : FVec Ideal S16384 .f32) (t : FVec Ideal S_ .f32) (k : Fin 1000) (s : Fin 16384)

theorem shifted_apply : shifted x (ix1 k) = x (ix1 k) -
    max (Ideal.ofBits FTy.f32 4286578688#32)
      (Finset.univ.fold max (Ideal.ofBits FTy.f32 4286578688#32) (fun k : Fin 1000 => x (ix1 k))) := by
  pointwise [shifted]

theorem normalise_apply : normalise x (ix1 k) =
    shifted x (ix1 k) - Ideal.log (∑ y : Fin 1000, Ideal.exp (shifted x (ix1 y))) := by
  pointwise [normalise]

theorem everySample_apply : everySample x (ix2 s k) = x (ix1 k) := by
  pointwise [everySample]

theorem everyClass_apply : everyClass c (ix2 s k) = c (ix2 s 0) := by
  pointwise [everyClass]

theorem column_apply (j : Fin 1) : column v (ix2 s j) = v (ix1 s) := by
  pointwise [column]

theorem classSum_apply : classSum z (ix1 s) = ∑ k : Fin 1000, z (ix2 s k) := by
  pointwise [classSum]

theorem reduces_classes : S16384x1000.Reduces [1] S16384 := by decide

/-- The entry of class `k` over sample `s`. -/
theorem lift_classes : reduces_classes.lift (ix1 s) k = ix2 s k := by
  funext c
  apply Fin.ext
  refine (Shape.Reduces.lift_val reduces_classes (ix1 s) k c).trans ?_
  match c with
  | ⟨0, _⟩ => rfl
  | ⟨1, _⟩ => rfl

/-- The largest value over the classes, one number per sample. -/
theorem top_apply : Host.reduce FloatOps.maximumf z (constant S_ .f32 0xFF800000#32) reducesTo_S16384x1000_S16384_d1 h_S_ (ix1 s)
    = Finset.univ.fold max (Ideal.ofBits FTy.f32 4286578688#32) (fun k : Fin 1000 => z (ix2 s k)) := by
  refine (Host.reduce_eq_fold_single max z _ _ reduces_classes _ _).trans ?_
  exact congrArg (fun f => Finset.univ.fold max (Ideal.ofBits FTy.f32 4286578688#32) f) (funext fun k => congrArg z (lift_classes k s))

theorem bottom_apply : broadcastInDim S16384 ![] bcast_S_S16384 (constant (F := Ideal) S_ .f32 0xFF800000#32) (ix1 s)
    = Ideal.ofBits FTy.f32 4286578688#32 := by
  pointwise []

theorem max_apply (a b : FVec Ideal S16384 .f32) : maximumf a b (ix1 s) = max (a (ix1 s)) (b (ix1 s)) := rfl

theorem classTop_apply : classTop z (ix2 s 0) = max (Ideal.ofBits FTy.f32 4286578688#32)
    (Finset.univ.fold max (Ideal.ofBits FTy.f32 4286578688#32) (fun k : Fin 1000 => z (ix2 s k))) := by
  rw [classTop, column_apply, max_apply, bottom_apply, top_apply]

theorem overSum_apply : overSum z (ix2 s k) = Ideal.div (z (ix2 s k)) (∑ k : Fin 1000, z (ix2 s k)) := by
  have h : overSum z (ix2 s k) = Ideal.div (z (ix2 s k)) (everyClass (column (classSum z)) (ix2 s k)) := by
    pointwise [overSum]
  rw [h, everyClass_apply, column_apply, classSum_apply]

theorem lessTop_apply : lessTop z (ix2 s k) = z (ix2 s k) - max (Ideal.ofBits FTy.f32 4286578688#32)
    (Finset.univ.fold max (Ideal.ofBits FTy.f32 4286578688#32) (fun k : Fin 1000 => z (ix2 s k))) := by
  have h : lessTop z (ix2 s k) = z (ix2 s k) - everyClass (classTop z) (ix2 s k) := by
    pointwise [lessTop]
  rw [h, everyClass_apply, classTop_apply]

theorem log_column_apply : Host.log c (ix2 s 0) = Ideal.log (c (ix2 s 0)) := rfl

theorem exp_apply : Host.exp z (ix2 s k) = Ideal.exp (z (ix2 s k)) := rfl

theorem log_apply : Host.log z (ix2 s k) = Ideal.log (z (ix2 s k)) := rfl

theorem normaliseRows_apply : normaliseRows z (ix2 s k) =
    lessTop z (ix2 s k) - Ideal.log (∑ y : Fin 1000, Ideal.exp (lessTop z (ix2 s y))) := by
  have h : normaliseRows z (ix2 s k) =
      lessTop z (ix2 s k) - everyClass (Host.log (column (classSum (Host.exp (lessTop z))))) (ix2 s k) := by
    pointwise [normaliseRows]
  rw [h, everyClass_apply, log_column_apply, column_apply, classSum_apply]
  simp only [exp_apply]

theorem relaxed_eq : relaxed t x z = overSum (overSum (Host.exp (lessTop (scaled t x z)))) := rfl

theorem logScale_apply : logScale t ix0 =
    Ideal.ofBits FTy.f32 1169721795#32 + Ideal.ofBits FTy.f32 1148829696#32 * Ideal.log (t ix0) := by
  pointwise [logScale]

theorem scaled_apply : scaled t x z (ix2 s k) = Ideal.div (x (ix1 k) + z (ix2 s k)) (t ix0) := by
  pointwise [scaled, everySample]

theorem scores_apply : scores t x z (ix2 s k) = x (ix1 k) - Ideal.log (z (ix2 s k)) * t ix0 := by
  pointwise [scores, everySample]

theorem addf_apply_sample (a b : FVec Ideal S16384 .f32) : addf a b (ix1 s) = a (ix1 s) + b (ix1 s) := rfl

theorem subf_apply_sample (a b : FVec Ideal S16384 .f32) : subf a b (ix1 s) = a (ix1 s) - b (ix1 s) := rfl

theorem density_apply : density t x z (ix1 s) =
    (∑ k : Fin 1000, normaliseRows (scores t x z) (ix2 s k)) + logScale t ix0 - ∑ k : Fin 1000, Ideal.log (z (ix2 s k)) := by
  have hb : broadcastInDim S16384 ![] bcast_S_S16384 (logScale t) (ix1 s) = logScale t ix0 := by
    pointwise []
  have h : density t x z (ix1 s) = classSum (normaliseRows (scores t x z)) (ix1 s)
      + broadcastInDim S16384 ![] bcast_S_S16384 (logScale t) (ix1 s) - classSum (Host.log z) (ix1 s) := by
    unfold density
    rw [subf_apply_sample, addf_apply_sample]
  rw [h, classSum_apply, classSum_apply, hb]
  simp only [log_apply]

/-- A class per sample, repeated for every class. -/
theorem pick_apply (i : IVec S16384 32) : broadcastInDim S16384x1000 ![0, 1] bcast_S16384x1_S16384x1000_0_1
    (broadcastInDim S16384x1 ![0] bcast_S16384_S16384x1_0 i) (ix2 s k) = i (ix1 s) := by
  pointwise []

theorem classes_apply : broadcastInDim S16384x1000 ![0, 1] bcast_S1x1000_S16384x1000_0_1 (iotaInDim S1x1000 32 1) (ix2 s k)
    = BitVec.ofNat 32 k.val := by
  pointwise []

theorem oneHot_apply (i : IVec S16384 32) : oneHot i (ix2 s k) =
    FloatOps.uitofp (F := Ideal) FTy.f32 (IntOp.cmpi .eq (i (ix1 s)) (BitVec.ofNat 32 k.val)) :=
  congrArg (FloatOps.uitofp (F := Ideal) FTy.f32)
    (congrArg₂ (IntOp.cmpi .eq) (pick_apply k s i) (classes_apply k s))

theorem straight_apply : straight z (ix2 s k) = z (ix2 s k) + (oneHot (firstTop z) (ix2 s k) - z (ix2 s k)) := rfl

end Cert.RefRun

end
-- ==== Proof.RefArgmax.lean ====
/- The reference's class of the largest entry, read on a row of reals. -/
module

public import proofs.«01_k».proof.Proof.RefEntries
public import proofs.«01_k».proof.Proof.Reals

@[expose] public section

set_option Elab.async false

noncomputable section

namespace Cert.RefRun

open Cert.ReferenceIdeal Cert.ReferenceIdeal.Gen Cert.FirstTop Idealize.ShloMosaic Idealize.ShloMosaic.TcCoe

/-- The comparison that the fold is made of, as one choice. -/
theorem reducer_eq (a b : EReal × BitVec 32) : reducer_argmax_f32_i32 (F := Ideal) a b =
    (if b.1 < a.1 then a.1 else b.1, if b.1 < a.1 ∨ (a.1 = b.1 ∧ a.2.toInt < b.2.toInt) then a.2 else b.2) := by
  by_cases h₁ : b.1 < a.1 <;> by_cases h₂ : a.1 = b.1 <;> by_cases h₃ : a.2.toInt < b.2.toInt <;>
    simp [reducer_argmax_f32_i32, Ideal.cmpf_def, Ideal.cmp, IntOp.ori, IntOp.andi, IntOp.cmpi, Scalar.select, BitVec.slt, h₁, h₂, h₃]

theorem reducer_left (a b : EReal × BitVec 32) (h : Before a b) : reducer_argmax_f32_i32 (F := Ideal) a b = a := by
  rw [reducer_eq, if_pos (show b.1 < a.1 ∨ (a.1 = b.1 ∧ a.2.toInt < b.2.toInt) from h)]
  rcases h with h | h
  · rw [if_pos h]
  · rw [if_neg (by rw [h.1]; exact lt_irrefl _), ← h.1]

theorem reducer_right (a b : EReal × BitVec 32) (h : Before a b) : reducer_argmax_f32_i32 (F := Ideal) b a = a := by
  rw [reducer_eq]
  rcases h with h | h
  · rw [if_neg (not_lt.mpr h.le), if_neg]
    rintro (h' | h')
    · exact absurd h (not_lt.mpr h'.le)
    · exact absurd h (by rw [h'.1]; exact lt_irrefl _)
  · rw [if_neg (by rw [h.1]; exact lt_irrefl _), if_neg]
    rintro (h' | h')
    · exact absurd h' (by rw [h.1]; exact lt_irrefl _)
    · omega

theorem reducer_same (a : EReal × BitVec 32) : reducer_argmax_f32_i32 (F := Ideal) a a = a := by
  rw [reducer_eq]
  simp

/-- Two pairs that differ are in order, unless they hold the same value and the same index. -/
theorem reducer_choice (a b : EReal × BitVec 32) :
    reducer_argmax_f32_i32 (F := Ideal) a b = a ∨ reducer_argmax_f32_i32 (F := Ideal) a b = b := by
  by_cases h : Before a b
  · exact Or.inl (reducer_left a b h)
  · right
    rw [reducer_eq, if_neg (show ¬(b.1 < a.1 ∨ (a.1 = b.1 ∧ a.2.toInt < b.2.toInt)) from h), if_neg fun h' => h (Or.inl h')]

/-- The source indices over sample `s` are the pairs of `s` and a class. -/
theorem drop_class (s : Fin 16384) (k : Fin 1000) : reducesTo_S16384x1000_S16384_d1.drop (ix2 s k) = ix1 s := by
  have h := reduces_classes.drop_lift (ix1 s) k
  rw [lift_classes] at h
  exact h

theorem of_drop (s : Fin 16384) (i : S16384x1000.Idx) (h : reducesTo_S16384x1000_S16384_d1.drop i = ix1 s) :
    ∃ k : Fin 1000, i = ix2 s k := by
  have e := reduces_classes.lift_drop i
  rw [show reduces_classes.drop i = ix1 s from h] at e
  exact ⟨i 1, e.symm.trans (lift_classes (i 1) s)⟩

/-- A fold over pairs that keeps the pair that goes before ends, at `j`, in the best pair over `j`. -/
theorem argReduce_best {s t u : Shape} {axes : List (Fin s.rank)} {f : EReal × BitVec 32 → EReal × BitVec 32 → EReal × BitVec 32}
    (hl : ∀ a b, Before a b → f a b = a) (hr : ∀ a b, Before a b → f b a = a) (hs : ∀ a, f a a = a)
    (hc : ∀ a b, f a b = a ∨ f a b = b) (x : FVec Ideal s .f32) (y : s.Idx → BitVec 32) (ix : FVec Ideal u .f32)
    (iy : u.Idx → BitVec 32) (h : s.ReducesTo axes t) (hu : 0 < u.numel) (j : t.Idx) (i : s.Idx) (hi : h.drop i = j)
    (h₀ : Before (x i, y i) (ix (Shape.Idx.first hu), iy (Shape.Idx.first hu)))
    (hall : ∀ i', h.drop i' = j → (x i', y i') = (x i, y i) ∨ Before (x i, y i) (x i', y i')) :
    Host.argReduce (F := Ideal) (φ := .f32) f x y ix iy h hu j = (x i, y i) := by
  rw [Ideal.argReduce_eq_reduce2, Host.reduce2_eq_foldl_fiber]
  refine foldl_before f hl hr hs hc (x i, y i) _ _ (Or.inr ⟨h₀, ?_⟩) fun e he => ?_
  · unfold Host.argReduceFiber
    refine List.mem_map.mpr ⟨s.rowMajor i, List.mem_filter.mpr ⟨List.mem_finRange _, ?_⟩, ?_⟩
    · rw [Equiv.symm_apply_apply]; simp [hi]
    · rw [Equiv.symm_apply_apply]
  · unfold Host.argReduceFiber at he
    obtain ⟨n, hn, rfl⟩ := List.mem_map.mp he
    exact hall _ (by simpa using (List.mem_filter.mp hn).2)

variable {z : FVec Ideal S16384x1000 .f32} {s : Fin 16384} {Y : Fin 1000 → ℝ}

/-- Of two classes the first of the largest entries goes before. -/
theorem first_before {k : Fin 1000} (h : IsFirst Y k) (y : Fin 1000) (e : y ≠ k) :
    Before ((Y k : EReal), BitVec.ofNat 32 k.val) ((Y y : EReal), BitVec.ofNat 32 y.val) := by
  rcases lt_or_ge (Y y) (Y k) with hlt | hge
  · exact Or.inl (EReal.coe_lt_coe_iff.mpr hlt)
  · right
    refine ⟨EReal.coe_eq_coe_iff.mpr (le_antisymm hge (h.1 y)), ?_⟩
    show (BitVec.ofNat 32 k.val).toInt < (BitVec.ofNat 32 y.val).toInt
    rw [toInt_class, toInt_class]
    have : k ≤ y := not_lt.mp fun hlt => absurd (h.2 y hlt) (not_lt.mpr hge)
    exact_mod_cast lt_of_le_of_ne this (Ne.symm e)

/-- The class number that the fold reads at an index. -/
theorem iota_class (k : Fin 1000) : iotaInDim S16384x1000 32 1 (ix2 s k) = BitVec.ofNat 32 k.val := rfl

theorem firstTop_eq : firstTop z = fun j =>
    (Host.argReduce (F := Ideal) (φ := .f32) reducer_argmax_f32_i32 z (iotaInDim S16384x1000 32 1)
      (constant S_ .f32 0xFF800000#32) (constantI S_ 32 0#32) reducesTo_S16384x1000_S16384_d1 h_S_ j).2 := rfl

/-- The fold's starting value. -/
theorem start_before (r : ℝ) (b : BitVec 32) (u : S_.Idx) :
    Before ((r : EReal), b) (constant (F := Ideal) S_ .f32 0xFF800000#32 u, constantI S_ 32 0#32 u) := by
  left
  show Ideal.ofBits FTy.f32 4286578688#32 < (r : EReal)
  rw [Cert.Reals.bits_bot]
  exact EReal.bot_lt_coe _

/-- The entry and its class number over a sample and a class. -/
theorem pair_class (hz : ∀ k, z (ix2 s k) = (Y k : EReal)) (y : Fin 1000) :
    (z (ix2 s y), iotaInDim S16384x1000 32 1 (ix2 s y)) = ((Y y : EReal), BitVec.ofNat 32 y.val) :=
  Prod.ext (hz y) (iota_class y)

theorem best_real (hz : ∀ k, z (ix2 s k) = (Y k : EReal)) {k : Fin 1000} (h : IsFirst Y k) :
    Host.argReduce (F := Ideal) (φ := .f32) reducer_argmax_f32_i32 z (iotaInDim S16384x1000 32 1)
      (constant S_ .f32 0xFF800000#32) (constantI S_ 32 0#32) reducesTo_S16384x1000_S16384_d1 h_S_ (ix1 s) =
    (z (ix2 s k), iotaInDim S16384x1000 32 1 (ix2 s k)) := by
  refine argReduce_best reducer_left reducer_right reducer_same reducer_choice z (iotaInDim S16384x1000 32 1)
    (constant S_ .f32 0xFF800000#32) (constantI S_ 32 0#32) reducesTo_S16384x1000_S16384_d1 h_S_ (ix1 s) (ix2 s k)
    (drop_class s k) ?_ ?_
  · rw [pair_class hz]
    exact start_before _ _ _
  · intro i hi
    obtain ⟨y, rfl⟩ := of_drop s i hi
    rw [pair_class hz, pair_class hz]
    by_cases e : y = k
    · left; rw [e]
    · exact Or.inr (first_before h y e)

/-- On a row of reals the class is the first of the largest entries. -/
theorem firstTop_real (hz : ∀ k, z (ix2 s k) = (Y k : EReal)) {k : Fin 1000} (h : IsFirst Y k) :
    firstTop z (ix1 s) = BitVec.ofNat 32 k.val := by
  rw [firstTop_eq]
  beta_reduce
  rw [best_real hz h, pair_class hz]

end Cert.RefRun

end
-- ==== Proof.RefResult.lean ====
/- The reference's two results as functions of its arguments: every run ends with them in the result buffers, with the
   arguments unchanged and no counter away from zero. -/
module

public import proofs.«01_k».proof.Proof.RefRun
public import Idealize.ShloMosaic.Lib.Claim
public import Idealize.ShloMosaic.Lib.Quiescent
public import Idealize.ShloMosaic.Lib.StableHlo.RunHlo

@[expose] public section

set_option Elab.async false

noncomputable section

namespace Cert.RefRun

open Cert.ReferenceIdeal Cert.ReferenceIdeal.Gen Idealize.ShloMosaic Idealize.ShloMosaic.TcCoe Idealize.SL.Sem
  Idealize.ShloMosaic.StableHlo

/-- The relaxed sample of the arguments. -/
def relaxedOf (t : FVec Ideal S_ .f32) (l : FVec Ideal S1000 .f32) (g : FVec Ideal S16384x1000 .f32) : FVec Ideal S16384x1000 .f32 :=
  relaxed t (normalise l) g

/-- The first result: the relaxed sample moved to the hard sample's value. -/
def sampleOf (t : FVec Ideal S_ .f32) (l : FVec Ideal S1000 .f32) (g : FVec Ideal S16384x1000 .f32) : FVec Ideal S16384x1000 .f32 :=
  straight (relaxedOf t l g)

/-- The second result: the log density of the relaxed sample under the logits less that under the prior. -/
def ratioOf (t : FVec Ideal S_ .f32) (l p : FVec Ideal S1000 .f32) (g : FVec Ideal S16384x1000 .f32) : FVec Ideal S16384 .f32 :=
  subf (density t (normalise l) (relaxedOf t l g)) (density t p (relaxedOf t l g))

/-! ## The values through the stages -/

variable (V : Valuation τ sig (Elt Ideal))

/-- A line of two pieces is the second piece's fold over the first's. -/
theorem after_pair (l₁ l₂ : List (HloOp τ sig (Elt Ideal))) : after (l₁ ++ l₂) V = after l₂ (after l₁ V) := by
  induction l₁ generalizing V with
  | nil => rfl
  | cons op l ih => exact ih _

/-- The contents after the first stage, and so on. -/
abbrev V₁ : Valuation τ sig (Elt Ideal) := after normaliseOps V
abbrev V₂ : Valuation τ sig (Elt Ideal) := after softmaxOps (V₁ V)
abbrev V₃ : Valuation τ sig (Elt Ideal) := after densityOps (V₂ V)
abbrev V₄ : Valuation τ sig (Elt Ideal) := after priorOps₁ (V₃ V)
abbrev V₅ : Valuation τ sig (Elt Ideal) := after priorOps₂ (V₄ V)

theorem after_all : after allOps V = after resultOps (V₅ V) := by
  refine (after_pair V (normaliseOps ++ (softmaxOps ++ (densityOps ++ priorOps₁))) (priorOps₂ ++ resultOps)).trans ?_
  refine (after_pair _ priorOps₂ resultOps).trans (congrArg (fun W => after resultOps (after priorOps₂ W)) ?_)
  refine (after_pair V normaliseOps (softmaxOps ++ (densityOps ++ priorOps₁))).trans ?_
  refine (after_pair (V₁ V) softmaxOps (densityOps ++ priorOps₁)).trans ?_
  exact after_pair (V₂ V) densityOps priorOps₁

variable {V} (r : Ref sig .tc)

theorem keep₁ (h : r ∉ normaliseOps_W) : V₁ V (Proc.devRef .tc r) = V (Proc.devRef .tc r) :=
  after_of_writes_sub _ _ normaliseOps_writes h
theorem keep₂ (h : r ∉ softmaxOps_W) : V₂ V (Proc.devRef .tc r) = V₁ V (Proc.devRef .tc r) :=
  after_of_writes_sub _ _ softmaxOps_writes h
theorem keep₃ (h : r ∉ densityOps_W) : V₃ V (Proc.devRef .tc r) = V₂ V (Proc.devRef .tc r) :=
  after_of_writes_sub _ _ densityOps_writes h
theorem keep₄ (h : r ∉ priorOps₁_W) : V₄ V (Proc.devRef .tc r) = V₃ V (Proc.devRef .tc r) :=
  after_of_writes_sub _ _ priorOps₁_writes h
theorem keep₅ (h : r ∉ priorOps₂_W) : V₅ V (Proc.devRef .tc r) = V₄ V (Proc.devRef .tc r) :=
  after_of_writes_sub _ _ priorOps₂_writes h

/-- A buffer that no operation writes is as at the start. -/
theorem keep_all (h : r ∉ normaliseOps_W ++ softmaxOps_W ++ densityOps_W ++ priorOps₁_W ++ priorOps₂_W ++ resultOps_W) :
    after allOps V (Proc.devRef .tc r) = V (Proc.devRef .tc r) := by
  simp only [List.mem_append, not_or] at h
  obtain ⟨⟨⟨⟨⟨h₁, h₂⟩, h₃⟩, h₄⟩, h₅⟩, h₆⟩ := h
  rw [after_all, after_of_writes_sub _ _ resultOps_writes h₆, keep₅ r h₅, keep₄ r h₄, keep₃ r h₃, keep₂ r h₂, keep₁ r h₁]

/-- The relaxed sample after its stage. -/
theorem relaxed_at : V₂ V (Proc.devRef .tc main_v20) =
    relaxedOf (V (Proc.devRef .tc main_arg1)) (V (Proc.devRef .tc main_arg2)) (V (Proc.devRef .tc main_arg4)) := by
  rw [V₂, after_softmax, keep₁ main_arg1 (by decide), V₁, after_normalise, ← V₁, keep₁ main_arg4 (by decide)]
  rfl

/-- The first result at the end. -/
theorem sample_at : after allOps V (Proc.devRef .tc main_v54) =
    sampleOf (V (Proc.devRef .tc main_arg1)) (V (Proc.devRef .tc main_arg2)) (V (Proc.devRef .tc main_arg4)) := by
  rw [after_all, after_sample, keep₅ main_v20 (by decide), keep₄ main_v20 (by decide), keep₃ main_v20 (by decide), relaxed_at]
  rfl

theorem density_at : V₃ V (Proc.devRef .tc main_v35) =
    density (V (Proc.devRef .tc main_arg1)) (normalise (V (Proc.devRef .tc main_arg2)))
      (relaxedOf (V (Proc.devRef .tc main_arg1)) (V (Proc.devRef .tc main_arg2)) (V (Proc.devRef .tc main_arg4))) := by
  rw [V₃, after_density, relaxed_at, keep₂ main_arg1 (by decide), keep₁ main_arg1 (by decide), keep₂ main_v0 (by decide),
    V₁, after_normalise]

theorem prior_at : V₅ V (Proc.devRef .tc main_v50) =
    density (V (Proc.devRef .tc main_arg1)) (V (Proc.devRef .tc main_arg3))
      (relaxedOf (V (Proc.devRef .tc main_arg1)) (V (Proc.devRef .tc main_arg2)) (V (Proc.devRef .tc main_arg4))) := by
  have h : V₅ V = after (priorOps₁ ++ priorOps₂) (V₃ V) := (after_pair _ _ _).symm
  rw [h, after_prior, keep₃ main_v20 (by decide), relaxed_at, keep₃ main_arg1 (by decide), keep₂ main_arg1 (by decide),
    keep₁ main_arg1 (by decide), keep₃ main_arg3 (by decide), keep₂ main_arg3 (by decide), keep₁ main_arg3 (by decide)]

/-- The second result at the end. -/
theorem ratio_at : after allOps V (Proc.devRef .tc main_v55) =
    ratioOf (V (Proc.devRef .tc main_arg1)) (V (Proc.devRef .tc main_arg2)) (V (Proc.devRef .tc main_arg3))
      (V (Proc.devRef .tc main_arg4)) := by
  rw [after_all, after_difference, prior_at, keep₅ main_v35 (by decide), keep₄ main_v35 (by decide), density_at]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

/-- What holds of every stage's operations holds of all. -/
theorem forall_all {p : HloOp τ sig (Elt Ideal) → Prop} (h₁ : normaliseOps.Forall p) (h₂ : softmaxOps.Forall p)
    (h₃ : densityOps.Forall p) (h₄ : priorOps₁.Forall p) (h₅ : priorOps₂.Forall p) (h₆ : resultOps.Forall p) :
    allOps.Forall p := by
  rw [List.forall_iff_forall_mem] at *
  intro op h
  rcases List.mem_append.mp h with h | h
  · rcases List.mem_append.mp h with h | h
    · exact h₁ op h
    rcases List.mem_append.mp h with h | h
    · exact h₂ op h
    rcases List.mem_append.mp h with h | h
    · exact h₃ op h
    · exact h₄ op h
  · rcases List.mem_append.mp h with h | h
    · exact h₅ op h
    · exact h₆ op h

/-- Every run of the reference ends with every buffer at the fold of its operations. -/
theorem run_all (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = after allOps (launchContents m d) (Proc.devRef .tc b) :=
  run_seq scopedRefs_eq scopedSems_eq defs main (fun _ => allOps) main_eq
    (fun _ => forall_all normaliseOps_sub softmaxOps_sub densityOps_sub priorOps₁_sub priorOps₂_sub resultOps_sub) m ρ
    fun _ => List.forall_iff_forall_mem.mp
      (forall_all normaliseOps_fresh softmaxOps_fresh densityOps_fresh priorOps₁_fresh priorOps₂_fresh resultOps_fresh)

/-- The reference has no counter. -/
theorem no_counter (s : MemSt nD τ sig (Elt Ideal)) : s.sem = fun _ => 0 := sem_eq_zero_of_no_sems (by decide) s

end Cert.RefRun

end
-- ==== Proof.RefValue.lean ====
/- The reference's two results on real arguments with a positive temperature. -/
module

public import proofs.«01_k».proof.Proof.RefArgmax
public import proofs.«01_k».proof.Proof.RefResult

@[expose] public section

set_option Elab.async false

noncomputable section

namespace Cert.RefRun

open Cert.ReferenceIdeal Cert.ReferenceIdeal.Gen Cert.FirstTop Cert.Reals Idealize.ShloMosaic Idealize.ShloMosaic.TcCoe

/-! ## Rows of reals through the stages -/

section Vector

variable {x : FVec Ideal S1000 .f32} {X : Fin 1000 → ℝ}

theorem shifted_real (hx : ∀ k, x (ix1 k) = (X k : EReal)) : ∃ M : ℝ, ∀ k, shifted x (ix1 k) = ((X k - M : ℝ) : EReal) := by
  obtain ⟨M, hM⟩ := fold_max_real X
  refine ⟨M, fun k => ?_⟩
  rw [shifted_apply]
  simp only [hx, bits_bot]
  rw [hM, max_eq_right bot_le, EReal.coe_sub]

/-- The normalised logits are the logits less the logarithm of the sum of their exponentials. -/
theorem normalise_real (hx : ∀ k, x (ix1 k) = (X k : EReal)) (k : Fin 1000) : normalise x (ix1 k) = (lnr X k : EReal) := by
  obtain ⟨M, hM⟩ := shifted_real hx
  rw [normalise_apply]
  simp only [hM, Ideal.exp_coe]
  rw [coe_sum]
  change ((X k - M : ℝ) : EReal) - Ideal.log ((total fun k => X k - M : ℝ) : EReal) = _
  rw [log_of_pos (total_pos fun k => X k - M), ← EReal.coe_sub, ← lnr_sub X M]
  rfl

end Vector

section Row

variable {z : FVec Ideal S16384x1000 .f32} {s : Fin 16384} {Z : Fin 1000 → ℝ}

theorem lessTop_real (hz : ∀ k, z (ix2 s k) = (Z k : EReal)) :
    ∃ M : ℝ, ∀ k, lessTop z (ix2 s k) = ((Z k - M : ℝ) : EReal) := by
  obtain ⟨M, hM⟩ := fold_max_real Z
  refine ⟨M, fun k => ?_⟩
  rw [lessTop_apply]
  simp only [hz, bits_bot]
  rw [hM, max_eq_right bot_le, EReal.coe_sub]

theorem normaliseRows_real (hz : ∀ k, z (ix2 s k) = (Z k : EReal)) (k : Fin 1000) :
    normaliseRows z (ix2 s k) = (lnr Z k : EReal) := by
  obtain ⟨M, hM⟩ := lessTop_real hz
  rw [normaliseRows_apply]
  simp only [hM, Ideal.exp_coe]
  rw [coe_sum]
  change ((Z k - M : ℝ) : EReal) - Ideal.log ((total fun k => Z k - M : ℝ) : EReal) = _
  rw [log_of_pos (total_pos fun k => Z k - M), ← EReal.coe_sub, ← lnr_sub Z M]
  rfl

/-- A row that is a positive multiple of a positive row stays one when it is divided by its sum. -/
theorem overSum_real {E : Fin 1000 → ℝ} (hE : ∀ k, 0 < E k) {c : ℝ} (hc : 0 < c)
    (hz : ∀ k, z (ix2 s k) = ((c * E k : ℝ) : EReal)) :
    ∃ c' : ℝ, 0 < c' ∧ ∀ k, overSum z (ix2 s k) = ((c' * E k : ℝ) : EReal) := by
  have hS : 0 < ∑ k, c * E k := Finset.sum_pos (fun k _ => mul_pos hc (hE k)) ⟨0, Finset.mem_univ 0⟩
  refine ⟨c / ∑ k, c * E k, div_pos hc hS, fun k => ?_⟩
  rw [overSum_apply]
  simp only [hz]
  rw [coe_sum, div_real _ hS.ne']
  congr 1
  ring

end Row

/-! ## The results -/

variable {t : FVec Ideal S_ .f32} {l p : FVec Ideal S1000 .f32} {g : FVec Ideal S16384x1000 .f32}
  {T : ℝ} {L P : Fin 1000 → ℝ} {G : Fin 16384 → Fin 1000 → ℝ} {s : Fin 16384}

/-- The relaxed sample is a positive multiple of the exponential of the perturbed logits over the temperature. -/
theorem relaxed_real (ht : t ix0 = (T : EReal)) (hT : 0 < T) (hl : ∀ k, l (ix1 k) = (L k : EReal))
    (hg : ∀ s k, g (ix2 s k) = (G s k : EReal)) :
    ∃ c : ℝ, 0 < c ∧ ∀ k, relaxedOf t l g (ix2 s k) = ((c * Real.exp (perturbed L (G s) k / T) : ℝ) : EReal) := by
  have hz : ∀ k, scaled t (normalise l) g (ix2 s k) = ((perturbed L (G s) k / T : ℝ) : EReal) := fun k => by
    rw [scaled_apply, normalise_real hl, hg, ht, ← EReal.coe_add, div_real _ hT.ne']
    rfl
  obtain ⟨M, hM⟩ := lessTop_real hz
  have he : ∀ k, Host.exp (lessTop (scaled t (normalise l) g)) (ix2 s k)
      = ((Real.exp (-M) * Real.exp (perturbed L (G s) k / T) : ℝ) : EReal) := fun k => by
    rw [exp_apply, hM, Ideal.exp_coe, ← Real.exp_add]
    congr 2
    ring
  obtain ⟨c₁, hc₁, h₁⟩ := overSum_real (fun k => Real.exp_pos (perturbed L (G s) k / T)) (Real.exp_pos (-M)) he
  obtain ⟨c₂, hc₂, h₂⟩ := overSum_real (fun k => Real.exp_pos (perturbed L (G s) k / T)) hc₁ h₁
  exact ⟨c₂, hc₂, h₂⟩

/-- The first result is the one-hot sample. -/
theorem sample_real (ht : t ix0 = (T : EReal)) (hT : 0 < T) (hl : ∀ k, l (ix1 k) = (L k : EReal))
    (hg : ∀ s k, g (ix2 s k) = (G s k : EReal)) (k : Fin 1000) : sampleOf t l g (ix2 s k) = hard L (G s) k := by
  obtain ⟨c, hc, hy⟩ := relaxed_real (s := s) ht hT hl hg
  obtain ⟨i, hi⟩ := exists_first (by norm_num) (perturbed L (G s))
  have hmono : StrictMono fun r : ℝ => c * Real.exp (r / T) := fun a b hab =>
    mul_lt_mul_of_pos_left (Real.exp_lt_exp.mpr (div_lt_div_of_pos_right hab hT)) hc
  unfold sampleOf
  rw [straight_apply, oneHot_apply, firstTop_real hy (hi.map hmono), uitofp_eq, hard_eq hi, hy]
  by_cases e : k = i
  · rw [if_pos e, ← EReal.coe_one, ← EReal.coe_sub, ← EReal.coe_add]
    congr 1
    ring
  · rw [if_neg e, ← EReal.coe_zero, ← EReal.coe_sub, ← EReal.coe_add]
    congr 1
    ring

/-- A density is a sum of normalised scores and a number that does not depend on the logits it is taken under. -/
theorem density_real (ht : t ix0 = (T : EReal)) (hT : 0 < T) {y : FVec Ideal S16384x1000 .f32} {z : Fin 1000 → ℝ} {c : ℝ} (hc : 0 < c)
    (hy : ∀ k, y (ix2 s k) = ((c * Real.exp (z k / T) : ℝ) : EReal)) :
    ∃ C : ℝ, ∀ (x : FVec Ideal S1000 .f32) (X : Fin 1000 → ℝ), (∀ k, x (ix1 k) = (X k : EReal)) →
      density t x y (ix1 s) = ((∑ k, lnr (fun k => X k - z k) k + C : ℝ) : EReal) := by
  obtain ⟨⟨a, ha⟩, b, hb⟩ := bits_scale
  have hlog : ∀ k, Ideal.log (y (ix2 s k)) = ((Real.log c + z k / T : ℝ) : EReal) := fun k => by
    rw [hy, log_of_pos (mul_pos hc (Real.exp_pos _)), Real.log_mul hc.ne' (Real.exp_pos _).ne', Real.log_exp]
  refine ⟨a + b * Real.log T - ∑ k, (Real.log c + z k / T), fun x X hx => ?_⟩
  have hs : ∀ k, scores t x y (ix2 s k) = ((X k - z k - T * Real.log c : ℝ) : EReal) := fun k => by
    rw [scores_apply, hx, hlog, ht, ← EReal.coe_mul, ← EReal.coe_sub]
    congr 1
    field_simp
    ring
  rw [density_apply, logScale_apply, ha, hb, ht, log_of_pos hT]
  simp only [hlog, normaliseRows_real hs]
  rw [coe_sum, coe_sum, lnr_sub (fun k => X k - z k), ← EReal.coe_mul, ← EReal.coe_add, ← EReal.coe_add, ← EReal.coe_sub]
  congr 1
  ring

theorem subf_sample (a b : FVec Ideal S16384 .f32) : subf a b (ix1 s) = a (ix1 s) - b (ix1 s) := rfl

/-- The second result is the real difference of the log densities. -/
theorem ratio_real (ht : t ix0 = (T : EReal)) (hT : 0 < T) (hl : ∀ k, l (ix1 k) = (L k : EReal))
    (hp : ∀ k, p (ix1 k) = (P k : EReal)) (hg : ∀ s k, g (ix2 s k) = (G s k : EReal)) :
    ratioOf t l p g (ix1 s) = (ratio L P (G s) : EReal) := by
  obtain ⟨c, hc, hy⟩ := relaxed_real (s := s) ht hT hl hg
  obtain ⟨C, hC⟩ := density_real ht hT hc hy
  unfold ratioOf
  rw [subf_sample, hC _ _ (normalise_real hl), hC _ _ hp, ← EReal.coe_sub, ← scores_ratio]
  congr 1
  ring

end Cert.RefRun

end
-- ==== Proof.Finite.lean ====
/- What the precondition says: the temperature is a positive real, and every logit, prior logit and noise entry is real. -/
module

public import proofs.«01_k».proof.Defs
public import proofs.«01_k».proof.Proof.Gen.Pre_finite
public import proofs.«01_k».proof.Proof.Reals
public import Idealize.ShloMosaic.Lib.ReduceAll
public import Idealize.ShloMosaic.Lib.IdealHost
public import Idealize.ShloMosaic.Lib.Pointwise

@[expose] public section

set_option Elab.async false

noncomputable section

namespace Cert.Finite

open Cert.Pre_finite Cert.Pre_finite.Gen Cert.Reals Idealize.ShloMosaic

/-- A value whose absolute value is below infinity is real. -/
theorem real_of_abs {x : EReal} (h : max x (-x) < ⊤) : ∃ r : ℝ, x = (r : EReal) := by
  induction x using EReal.rec with
  | bot => simp at h
  | coe r => exact ⟨r, rfl⟩
  | top => simp at h

/-- The comparison with infinity, entry by entry. -/
theorem real_of_test {s : Shape} {x : FVec Ideal s .f32} (y : FVec Ideal s .f32)
    (hy : ∀ i, y i = Ideal.ofBits FTy.f32 2139095040#32) (i : s.Idx)
    (h : cmpf .olt (Host.absf x) y i = 1#1) : ∃ r : ℝ, x i = (r : EReal) := by
  have h' : Ideal.cmp .olt (max (x i) (-x i)) (y i) = 1#1 := h
  rw [hy, bits_top] at h'
  refine real_of_abs ?_
  by_contra hn
  simp [Ideal.cmp, hn] at h'

/-- The temperature's two comparisons. -/
theorem real_of_positive {x z y : EReal} (hz : z = Ideal.ofBits FTy.f32 0#32) (hy : y = Ideal.ofBits FTy.f32 2139095040#32)
    (h0 : Ideal.cmp .ogt x z = 1#1) (h1 : Ideal.cmp .olt x y = 1#1) : ∃ r : ℝ, 0 < r ∧ x = (r : EReal) := by
  have e0 : z = 0 := by rw [hz]; simp [Ideal.ofBits, Ideal.ieee]
  rw [e0] at h0
  rw [hy, bits_top] at h1
  have p0 : 0 < x := by by_contra hn; simp [Ideal.cmp, hn] at h0
  have p1 : x < ⊤ := by by_contra hn; simp [Ideal.cmp, hn] at h1
  induction x using EReal.rec with
  | bot => simp at p0
  | coe r => exact ⟨r, by exact_mod_cast p0, rfl⟩
  | top => simp at p1

instance : Subsingleton S_.Idx := ⟨fun a b => funext fun i => i.elim0⟩

variable {n : IVec S_ 32} {t : FVec Ideal S_ .f32} {l p : FVec Ideal S1000 .f32} {g : FVec Ideal S16384x1000 .f32}

/-- The precondition, read. -/
theorem reals (h : Cert.Pre_finite.fn (F := Ideal) n t l p g = fun _ => 1#1) :
    (∃ T : ℝ, 0 < T ∧ t ix0 = (T : EReal)) ∧ (∃ L : Fin 1000 → ℝ, ∀ k, l (ix1 k) = (L k : EReal))
      ∧ (∃ P : Fin 1000 → ℝ, ∀ k, p (ix1 k) = (P k : EReal))
      ∧ ∃ G : Fin 16384 → Fin 1000 → ℝ, ∀ s k, g (ix2 s k) = (G s k : EReal) := by
  have h := congrFun h ix0
  dsimp only [Cert.Pre_finite.fn, Cert.Pre_finite.fn_part1] at h
  obtain ⟨h, hg⟩ := IntOp.andi_eq_one.1 h
  obtain ⟨h, hp⟩ := IntOp.andi_eq_one.1 h
  obtain ⟨h, hl⟩ := IntOp.andi_eq_one.1 h
  obtain ⟨h0, h1⟩ := IntOp.andi_eq_one.1 h
  have el := fun k : Fin 1000 => real_of_test _ (fun _ => rfl) (ix1 k) (Host.reduce_andi_all _ _ _ _ _ hl (ix1 k))
  have ep := fun k : Fin 1000 => real_of_test _ (fun _ => rfl) (ix1 k) (Host.reduce_andi_all _ _ _ _ _ hp (ix1 k))
  have eg := fun (s : Fin 16384) (k : Fin 1000) =>
    real_of_test _ (fun _ => rfl) (ix2 s k) (Host.reduce_andi_all _ _ _ _ _ hg (ix2 s k))
  choose L hL using el
  choose P hP using ep
  choose G hG using eg
  exact ⟨real_of_positive rfl rfl h0 h1, ⟨L, hL⟩, ⟨P, hP⟩, G, hG⟩

end Cert.Finite

end
-- ==== Proof.Agree.lean ====
/- The claims about the idealized programs: the reference keeps its arguments, and the two programs' results are equal. -/
module

public import proofs.«01_k».proof.Proof.KernelArray
public import proofs.«01_k».proof.Proof.RefValue
public import proofs.«01_k».proof.Proof.Finite

@[expose] public section

set_option Elab.async false

noncomputable section

namespace Cert.Agree

open Cert.RefRun Idealize.ShloMosaic Idealize.ShloMosaic.StableHlo Idealize.ShloMosaic.TcCoe Idealize.SL.Sem
open Cert.ReferenceIdeal (main_arg0 main_arg1 main_arg2 main_arg3 main_arg4 main_v54 main_v55)

section Reference

open Cert.ReferenceIdeal

variable (m : (ℓ : Loc nD τ sig) → Buf (Elt Ideal) ℓ) (ρ : Dev nD → PrngReg)

/-- The reference's run: each result is its function of the arguments, the arguments stay, and no counter is left raised. -/
theorem reference_run : θ_run (defs (F := Ideal)) (onTc (τ := τ) (main (F := Ideal))) ⟨m, fun _ => 0, ρ⟩ fun r =>
    (∀ c : Dev nD,
      (r.2.mem (c.tc.loc main_v54) = sampleOf (m (c.tc.loc main_arg1)) (m (c.tc.loc main_arg2)) (m (c.tc.loc main_arg4))
        ∧ r.2.mem (c.tc.loc main_v55) = ratioOf (m (c.tc.loc main_arg1)) (m (c.tc.loc main_arg2)) (m (c.tc.loc main_arg3))
            (m (c.tc.loc main_arg4)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
    ∧ r.2.sem = fun _ => 0 :=
  (θ_run _ _ _).mono (fun r h => ⟨fun c =>
      ⟨⟨(h c main_v54).trans sample_at, (h c main_v55).trans ratio_at⟩,
        (h c main_arg0).trans (keep_all main_arg0 (by decide)),
        (h c main_arg1).trans (keep_all main_arg1 (by decide)),
        (h c main_arg2).trans (keep_all main_arg2 (by decide)),
        (h c main_arg3).trans (keep_all main_arg3 (by decide)),
        (h c main_arg4).trans (keep_all main_arg4 (by decide))⟩,
      no_counter r.2⟩)
    (run_all m ρ)

/-- The reference's frame. -/
theorem reference_frame : θ_run (defs (F := Ideal)) (onTc (τ := τ) (main (F := Ideal))) ⟨m, fun _ => 0, ρ⟩ fun r =>
    (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
    ∧ r.2.sem = fun _ => 0 :=
  (θ_run _ _ _).mono (fun _ h => ⟨fun c => (h.1 c).2, h.2⟩) (reference_run m ρ)

end Reference

/-- The kernel and the reference end with equal results. -/
theorem algebraic : Cert.algebraic_KernelIdeal_ReferenceIdeal_pre_finite := by
  intro m ρ m' ρ' hpre hargs
  refine ⟨_, _, Cert.KernelValue.run_results m ρ,
    (θ_run _ _ _).mono (fun r h c => ⟨?_, ?_, (h.1 c).2⟩) (reference_run m' ρ')⟩
  · obtain ⟨⟨T, hT, ht⟩, ⟨L, hl⟩, ⟨P, hp⟩, G, hg⟩ := Cert.Finite.reals (hpre c)
    obtain ⟨-, a1, a2, -, a4⟩ := hargs c
    rw [(h.1 c).1.1, a1, a2, a4]
    refine funext fun i => ?_
    obtain ⟨s, k, rfl⟩ : ∃ (s : Fin 16384) (k : Fin 1000), i = ix2 s k := ⟨i 0, i 1, eq_ix2 i⟩
    exact (sample_real ht hT hl hg k).trans (Cert.KernelValue.sample_result m c hl hg s k).symm
  · obtain ⟨⟨T, hT, ht⟩, ⟨L, hl⟩, ⟨P, hp⟩, G, hg⟩ := Cert.Finite.reals (hpre c)
    obtain ⟨-, a1, a2, a3, a4⟩ := hargs c
    rw [(h.1 c).1.2, a1, a2, a3, a4]
    refine funext fun i => ?_
    obtain ⟨s, rfl⟩ : ∃ s : Fin 16384, i = ix1 s := ⟨i 0, eq_ix1 i⟩
    exact (ratio_real ht hT hl hp hg).trans (Cert.KernelValue.ratio_result m c hl hp hg s).symm

/-- The named constant is the one the kernel rounds. -/
theorem preserves : Cert.preserves_Kernel_KernelIdeal :=
  IdealRules.named_const.statement Cert.KernelIdeal.κ "neg_log2_e" .f32 0xBFB8AA3B#32 ((-((Real.log 2)⁻¹) : ℝ) : EReal) rfl

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => Cert.Agree.reference_frame m ρ,
    fun m ρ _ => Cert.Agree.reference_frame m ρ,
    Cert.Agree.preserves,
    Cert.Agree.algebraic⟩

end Cert.Proof

end
